-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S8x2x512x128 : Shape := ⟨4, ![8, 2, 512, 128]⟩
abbrev S7x2x512x128 : Shape := ⟨4, ![7, 2, 512, 128]⟩
abbrev S2x512x128 : Shape := ⟨3, ![2, 512, 128]⟩
abbrev S512x1536 : Shape := ⟨2, ![512, 1536]⟩
abbrev S7 : Shape := ⟨1, ![7]⟩
abbrev S8 : Shape := ⟨1, ![8]⟩
abbrev S_ : Shape := ⟨0, ![]⟩
abbrev S1x128x512 : Shape := ⟨3, ![1, 128, 512]⟩
abbrev S128x512 : Shape := ⟨2, ![128, 512]⟩
abbrev S512x128 : Shape := ⟨2, ![512, 128]⟩
abbrev S1x1x512x128 : Shape := ⟨4, ![1, 1, 512, 128]⟩
abbrev S1 : Shape := ⟨1, ![1]⟩
abbrev S1x2x512x128 : Shape := ⟨4, ![1, 2, 512, 128]⟩
abbrev S1536x128 : Shape := ⟨2, ![1536, 128]⟩
abbrev S8x64x128 : Shape := ⟨3, ![8, 64, 128]⟩
abbrev S8x128x128 : Shape := ⟨3, ![8, 128, 128]⟩
abbrev S8x128 : Shape := ⟨2, ![8, 128]⟩
abbrev S8x128x1 : Shape := ⟨3, ![8, 128, 1]⟩
abbrev S8x1x128 : Shape := ⟨3, ![8, 1, 128]⟩
abbrev S1x512x128 : Shape := ⟨3, ![1, 512, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S8x2x512x128, .bf16⟩
  | .local _ .vmem, ⟨7, _⟩ => ⟨S7x2x512x128, .bf16⟩
  | .local _ .vmem, ⟨8, _⟩ => ⟨S8x2x512x128, .bf16⟩
  | .local _ .vmem, ⟨9, _⟩ => ⟨S2x512x128, .f32⟩
  | .local _ .vmem, ⟨10, _⟩ => ⟨S512x1536, .bf16⟩
  | .local _ .vmem, ⟨11, _⟩ => ⟨S512x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : Index := Scalar.indexCast v2
  let c0_31 : Index := 0#32
  let c0_32 : Index := 0#32
  let c0_33 : Index := 0#32
  ![v36.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : Index := Scalar.indexCast v2
  let c1_36 : Index := 1#32
  let c0_37 : Index := 0#32
  let c0_38 : Index := 0#32
  ![v44.toNat, 1, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_44 : BitVec 32 := 0#32
  let c0_i32_45 : BitVec 32 := 0#32
  let c0_i32_46 : BitVec 32 := 0#32
  ![v2.toNat, 0, 0, 0]
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v48 : BitVec 32 := Scalar.addi v2 c1_i32_39
  let c8_i32_40 : BitVec 32 := 8#32
  let v49 : BitVec 32 := Scalar.remsi v48 c8_i32_40
  let c1_i32_42 : BitVec 32 := 1#32
  let v50 : BitVec 32 := Scalar.muli v49 c1_i32_42
  let v51 : BitVec 32 := Scalar.addi c0_i32_43 v50
  v51.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v60 : BitVec 32 := Scalar.addi v2 c2_i32_50
  let c8_i32_51 : BitVec 32 := 8#32
  let v61 : BitVec 32 := Scalar.remsi v60 c8_i32_51
  let c1_i32_53 : BitVec 32 := 1#32
  let v62 : BitVec 32 := Scalar.muli v61 c1_i32_53
  let v63 : BitVec 32 := Scalar.addi c0_i32_54 v62
  v63.toNat
def k0_dev10 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v72 : BitVec 32 := Scalar.addi v2 c3_i32_61
  let c8_i32_62 : BitVec 32 := 8#32
  let v73 : BitVec 32 := Scalar.remsi v72 c8_i32_62
  let c1_i32_64 : BitVec 32 := 1#32
  let v74 : BitVec 32 := Scalar.muli v73 c1_i32_64
  let v75 : BitVec 32 := Scalar.addi c0_i32_65 v74
  v75.toNat
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v84 : BitVec 32 := Scalar.addi v2 c4_i32_72
  let c8_i32_73 : BitVec 32 := 8#32
  let v85 : BitVec 32 := Scalar.remsi v84 c8_i32_73
  let c1_i32_75 : BitVec 32 := 1#32
  let v86 : BitVec 32 := Scalar.muli v85 c1_i32_75
  let v87 : BitVec 32 := Scalar.addi c0_i32_76 v86
  v87.toNat
def k0_dev12 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_83 : BitVec 32 := 5#32
  let v96 : BitVec 32 := Scalar.addi v2 c5_i32_83
  let c8_i32_84 : BitVec 32 := 8#32
  let v97 : BitVec 32 := Scalar.remsi v96 c8_i32_84
  let c1_i32_86 : BitVec 32 := 1#32
  let v98 : BitVec 32 := Scalar.muli v97 c1_i32_86
  let v99 : BitVec 32 := Scalar.addi c0_i32_87 v98
  v99.toNat
def k0_dev13 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v108 : BitVec 32 := Scalar.addi v2 c6_i32_94
  let c8_i32_95 : BitVec 32 := 8#32
  let v109 : BitVec 32 := Scalar.remsi v108 c8_i32_95
  let c1_i32_97 : BitVec 32 := 1#32
  let v110 : BitVec 32 := Scalar.muli v109 c1_i32_97
  let v111 : BitVec 32 := Scalar.addi c0_i32_98 v110
  v111.toNat
def k0_dev14 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_105 : BitVec 32 := 7#32
  let v120 : BitVec 32 := Scalar.addi v2 c7_i32_105
  let c8_i32_106 : BitVec 32 := 8#32
  let v121 : BitVec 32 := Scalar.remsi v120 c8_i32_106
  let c1_i32_108 : BitVec 32 := 1#32
  let v122 : BitVec 32 := Scalar.muli v121 c1_i32_108
  let v123 : BitVec 32 := Scalar.addi c0_i32_109 v122
  v123.toNat
def k0_off5 (d0 : Dev nD) (c7_i32_163 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : BitVec 32 := Scalar.addi v2 c7_i32_163
  let c8_i32_164 : BitVec 32 := 8#32
  let v227 : BitVec 32 := Scalar.remsi v226 c8_i32_164
  ![v227.toNat]
def k0_off6 (d0 : Dev nD) (c7_i32_163 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : BitVec 32 := Scalar.addi v2 c7_i32_163
  let c8_i32_164 : BitVec 32 := 8#32
  let v227 : BitVec 32 := Scalar.remsi v226 c8_i32_164
  let c0_i32_168 : BitVec 32 := 0#32
  let c0_i32_169 : BitVec 32 := 0#32
  let c0_i32_170 : BitVec 32 := 0#32
  ![v227.toNat, 0, 0, 0]
def k0_off7 (d0 : Dev nD) (c7_i32_163 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : BitVec 32 := Scalar.addi v2 c7_i32_163
  let c8_i32_164 : BitVec 32 := 8#32
  let v227 : BitVec 32 := Scalar.remsi v226 c8_i32_164
  let v236 : Index := Scalar.indexCast v227
  let c0_174 : Index := 0#32
  let c0_175 : Index := 0#32
  let c0_176 : Index := 0#32
  ![v236.toNat, 0, 0, 0]
def k0_off8 (d0 : Dev nD) (c7_i32_163 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : BitVec 32 := Scalar.addi v2 c7_i32_163
  let c8_i32_164 : BitVec 32 := 8#32
  let v227 : BitVec 32 := Scalar.remsi v226 c8_i32_164
  let v272 : Index := Scalar.indexCast v227
  let c1_192 : Index := 1#32
  let c0_193 : Index := 0#32
  let c0_194 : Index := 0#32
  ![v272.toNat, 1, 0, 0]
def k0_dev15 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_163 : BitVec 32 := 7#32
  let v226 : BitVec 32 := Scalar.addi v2 c7_i32_163
  let c8_i32_164 : BitVec 32 := 8#32
  let v227 : BitVec 32 := Scalar.remsi v226 c8_i32_164
  let c1_i32_212 : BitVec 32 := 1#32
  let v308 : BitVec 32 := Scalar.muli v227 c1_i32_212
  let v309 : BitVec 32 := Scalar.addi c0_i32_213 v308
  v309.toNat
def k0_dev16 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_220 : BitVec 32 := 6#32
  let v318 : BitVec 32 := Scalar.addi v2 c6_i32_220
  let c8_i32_221 : BitVec 32 := 8#32
  let v319 : BitVec 32 := Scalar.remsi v318 c8_i32_221
  let c1_i32_269 : BitVec 32 := 1#32
  let v400 : BitVec 32 := Scalar.muli v319 c1_i32_269
  let v401 : BitVec 32 := Scalar.addi c0_i32_270 v400
  v401.toNat
def k0_dev17 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_277 : BitVec 32 := 5#32
  let v410 : BitVec 32 := Scalar.addi v2 c5_i32_277
  let c8_i32_278 : BitVec 32 := 8#32
  let v411 : BitVec 32 := Scalar.remsi v410 c8_i32_278
  let c1_i32_325 : BitVec 32 := 1#32
  let v492 : BitVec 32 := Scalar.muli v411 c1_i32_325
  let v493 : BitVec 32 := Scalar.addi c0_i32_326 v492
  v493.toNat
def k0_dev18 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_333 : BitVec 32 := 4#32
  let v502 : BitVec 32 := Scalar.addi v2 c4_i32_333
  let c8_i32_334 : BitVec 32 := 8#32
  let v503 : BitVec 32 := Scalar.remsi v502 c8_i32_334
  let c1_i32_381 : BitVec 32 := 1#32
  let v584 : BitVec 32 := Scalar.muli v503 c1_i32_381
  let v585 : BitVec 32 := Scalar.addi c0_i32_382 v584
  v585.toNat
def k0_dev19 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_389 : BitVec 32 := 3#32
  let v594 : BitVec 32 := Scalar.addi v2 c3_i32_389
  let c8_i32_390 : BitVec 32 := 8#32
  let v595 : BitVec 32 := Scalar.remsi v594 c8_i32_390
  let c1_i32_437 : BitVec 32 := 1#32
  let v676 : BitVec 32 := Scalar.muli v595 c1_i32_437
  let v677 : BitVec 32 := Scalar.addi c0_i32_438 v676
  v677.toNat
def k0_dev20 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_445 : BitVec 32 := 2#32
  let v686 : BitVec 32 := Scalar.addi v2 c2_i32_445
  let c8_i32_446 : BitVec 32 := 8#32
  let v687 : BitVec 32 := Scalar.remsi v686 c8_i32_446
  let c1_i32_493 : BitVec 32 := 1#32
  let v768 : BitVec 32 := Scalar.muli v687 c1_i32_493
  let v769 : BitVec 32 := Scalar.addi c0_i32_494 v768
  v769.toNat
def k0_dev21 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  let v778 : BitVec 32 := Scalar.addi v2 c1_i32_501
  let c8_i32_502 : BitVec 32 := 8#32
  let v779 : BitVec 32 := Scalar.remsi v778 c8_i32_502
  let c1_i32_549 : BitVec 32 := 1#32
  let v860 : BitVec 32 := Scalar.muli v779 c1_i32_549
  let v861 : BitVec 32 := Scalar.addi c0_i32_550 v860
  v861.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x128x512 : Shape := ⟨3, ![16, 128, 512]⟩
abbrev S512x4096 : Shape := ⟨2, ![512, 4096]⟩
abbrev S4096x512 : Shape := ⟨2, ![4096, 512]⟩
abbrev S16x128x4096 : Shape := ⟨3, ![16, 128, 4096]⟩
abbrev S16x128x64x64 : Shape := ⟨4, ![16, 128, 64, 64]⟩
abbrev S_ : Shape := ⟨0, ![]⟩
abbrev S16x64x128x1 : Shape := ⟨4, ![16, 64, 128, 1]⟩
abbrev S16x64x128x128 : Shape := ⟨4, ![16, 64, 128, 128]⟩
abbrev S16x64x128 : Shape := ⟨3, ![16, 64, 128]⟩
abbrev S16x128x64x1 : Shape := ⟨4, ![16, 128, 64, 1]⟩
abbrev S16x64x64x128 : Shape := ⟨4, ![16, 64, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x512, .f32⟩
  | .hbm, ⟨5, _⟩ => ⟨S16x128x4096, .f32⟩
  | .hbm, ⟨6, _⟩ => ⟨S16x128x64x64, .f32⟩
  | .hbm, ⟨7, _⟩ => ⟨S16x128x4096, .f32⟩
  | .hbm, ⟨8, _⟩ => ⟨S16x128x64x64, .f32⟩
  | .hbm, ⟨9, _⟩ => ⟨S16x128x4096, .f32⟩
  | .hbm, ⟨10, _⟩ => ⟨S16x128x64x64, .f32⟩
  | .hbm, ⟨11, _⟩ => ⟨S_, .f32⟩
  | .hbm, ⟨12, _⟩ => ⟨S16x128x64x64, .f32⟩
  | .hbm, ⟨13, _⟩ => ⟨S_, .f32⟩
  | .hbm, ⟨14, _⟩ => ⟨S16x64x128x1, .f32⟩
  | .hbm, ⟨15, _⟩ => ⟨S_, .f32⟩
  | .hbm, ⟨16, _⟩ => ⟨S16x64x128x1, .f32⟩
  | .hbm, ⟨17, _⟩ => ⟨S16x64x128x128, .f32⟩
  | .hbm, ⟨18, _⟩ => ⟨S_, .f32⟩
  | .hbm, ⟨19, _⟩ => ⟨S16x64x128x128, .f32⟩
  | .hbm, ⟨20, _⟩ => ⟨S16x64x128x128, .f32⟩
  | .hbm, ⟨21, _⟩ => ⟨S_, .f32⟩
  | .hbm, ⟨22, _⟩ => ⟨S16x64x128, .f32⟩
  | .hbm, ⟨23, _⟩ => ⟨S16x64x128x1, .f32⟩
  | .hbm, ⟨24, _⟩ => ⟨S16x64x128x1, .f32⟩
  | .hbm, ⟨25, _⟩ => ⟨S16x64x128x1, .f32⟩
  | .hbm, ⟨26, _⟩ => ⟨S16x64x128x1, .f32⟩
  | .hbm, ⟨27, _⟩ => ⟨S16x64x128x128, .f32⟩
  | .hbm, ⟨28, _⟩ => ⟨S16x64x128x128, .f32⟩
  | .hbm, ⟨29, _⟩ => ⟨S16x64x128x128, .f32⟩
  | .hbm, ⟨30, _⟩ => ⟨S16x64x128x1, .f32⟩
  | .hbm, ⟨31, _⟩ => ⟨S_, .f32⟩
  | .hbm, ⟨32, _⟩ => ⟨S16x64x128, .f32⟩
  | .hbm, ⟨33, _⟩ => ⟨S16x64x128x1, .f32⟩
  | .hbm, ⟨34, _⟩ => ⟨S16x64x128x1, .f32⟩
  | .hbm, ⟨35, _⟩ => ⟨S16x128x64x1, .f32⟩
  | .hbm, ⟨36, _⟩ => ⟨S16x128x64x64, .f32⟩
  | .hbm, ⟨37, _⟩ => ⟨S16x128x64x64, .f32⟩
  | .hbm, ⟨38, _⟩ => ⟨S16x64x64x128, .f32⟩
  | .hbm, ⟨39, _⟩ => ⟨S16x128x64x64, .f32⟩
  | .hbm, ⟨40, _⟩ => ⟨S16x128x64x64, .f32⟩
  | .hbm, ⟨41, _⟩ => ⟨S16x128x64x1, .f32⟩
  | .hbm, ⟨42, _⟩ => ⟨S16x128x64x64, .f32⟩
  | .hbm, ⟨43, _⟩ => ⟨S16x128x64x64, .f32⟩
  | .hbm, ⟨44, _⟩ => ⟨S16x128x4096, .f32⟩
  | .hbm, ⟨45, _⟩ => ⟨S16x128x512, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.KernelIdeal.Contents.lean ====
/-
# What every buffer holds: the contents of the launch, as functions of the arguments

Device `t`'s rows of `x` travel to every device; device `s` computes from them and from ITS heads the partial result
`ch t s b` (batch `b` of device `t`'s rows), and sends it back to `t`. Everything a buffer holds at any moment of the
launch is a function of the five arguments of all devices; this module defines those functions and shows that the
program's payloads, which the skeleton names one by one, are instances of a few of them.
-/
module

public import proofs.«01_k».proof.Proof.Gen.KernelIdeal
public import proofs.«01_k».proof.Proof.Gen.KernelIdeal.Skeleton
public import Idealize.ShloMosaic.Lib.ValueIdxCore
public import Idealize.ShloMosaic.Lib.ValueIdxCoords

@[expose] public section

set_option maxRecDepth 16384

noncomputable section

namespace Cert.KernelIdeal.Run

open Cert.KernelIdeal Cert.KernelIdeal.Gen
open Idealize.ShloMosaic Idealize.ShloMosaic.ValueIdx

variable {F : FTy → Type} [FloatOps F]

/-! ## The neighbours -/

set_option backward.proofsInPublic true in
/-- The device `k + 1` places after `c` on the ring of eight: step `k` sends `x` there and receives a result from there. -/
def up (c : Dev nD) (k : ℕ) : Dev nD := ⟨(c.val + k + 1) % 8, Nat.mod_lt _ (by decide)⟩
set_option backward.proofsInPublic true in
/-- The device `k + 1` places before `c`: step `k` receives its rows of `x` and sends the result back to it. -/
def dn (c : Dev nD) (k : ℕ) : Dev nD := ⟨(c.val + (7 - k)) % 8, Nat.mod_lt _ (by decide)⟩

/-- The step, seen from the other end. -/
def rev (k : Fin 7) : Fin 7 := ⟨6 - k.val, by omega⟩

theorem up_rev (c : Dev nD) (k : Fin 7) : up (up c k.val) (rev k).val = c := by revert c k; decide
theorem rev_rev (k : Fin 7) : rev (rev k) = k := by revert k; decide
theorem up_dn (c : Dev nD) (k : Fin 7) : up (dn c k.val) k.val = c := by revert c k; decide
theorem dn_up (c : Dev nD) (k : Fin 7) : dn (up c k.val) k.val = c := by revert c k; decide
theorem dn_eq_up (c : Dev nD) (k : Fin 7) : dn c k.val = up c (rev k).val := by revert c k; decide
theorem up_eq_dn (c : Dev nD) (k : Fin 7) : up c k.val = dn c (rev k).val := by revert c k; decide
theorem up_ne (c : Dev nD) (k : Fin 7) : up c k.val ≠ c := by revert c k; decide
theorem dn_ne (c : Dev nD) (k : Fin 7) : dn c k.val ≠ c := by revert c k; decide
theorem up_inj (c : Dev nD) {j k : Fin 7} (h : up c j.val = up c k.val) : j = k := by revert c j k; decide
theorem dn_inj (c : Dev nD) {j k : Fin 7} (h : dn c j.val = dn c k.val) : j = k := by revert c j k; decide

/-! ## The arguments, and the contents -/

/-- The five arguments of every device, as the staging buffers hold them. -/
structure Args (F : FTy → Type) where
  x : Dev nD → Vec F S2x128x512 .f32
  wq : Dev nD → Vec F S512x512 .f32
  wo : Dev nD → Vec F S512x512 .f32
  wk : Dev nD → Vec F S512x512 .f32
  wv : Dev nD → Vec F S512x512 .f32

variable (A : Args F)

/-- Batch `b` of device `t`'s rows. -/
def xrow (t : Dev nD) (b : Fin 2) : Vec F S1x128x512 .f32 := fun j => A.x t (ix3 b (j 1) (j 2))
/-- The same transposed and rounded: what `x_all[t, b]` holds, on every device. -/
def xb (t : Dev nD) (b : Fin 2) : FVec F S1x1x512x128 .bf16 := k0_pay1 (xrow A t b)
/-- The contents of `x_all`. -/
def XA : Vec F S8x2x512x128 .bf16 := fun i => xb A (i 0) (i 1) (ix4 0 0 (i 2) (i 3))
/-- The three projections of device `s`'s heads, side by side: `wqkv` on `s`. -/
def WQ (s : Dev nD) : Vec F S512x1536 .bf16 := fun i =>
  if h : (i 1).val < 512 then k0_pay3 (A.wq s) (ix2 (i 0) ⟨(i 1).val, h⟩)
  else if h' : (i 1).val < 1024 then k0_pay4 (A.wk s) (ix2 (i 0) ⟨(i 1).val - 512, by omega⟩)
  else k0_pay5 (A.wv s) (ix2 (i 0) ⟨(i 1).val - 1024, by
    have h3 : (i 1).val < 1536 := (i 1).isLt
    omega⟩)
/-- `wo` on `s`. -/
def WO (s : Dev nD) : Vec F S512x512 .bf16 := k0_pay6 (A.wo s)

/-- The partial result of rows `x`, with the projections `q` and `o`, as the accumulator takes it, -/
def chunkA (x : Vec F S1x1x512x128 .bf16) (q : Vec F S512x1536 .bf16) (o : Vec F S512x512 .bf16) : FVec F S1x512x128 .f32 :=
  k0_pay11 (k0_pay9 x q) (k0_pay10 x q) o
/-- and rounded, as a transfer takes it. -/
def chunkB (x : Vec F S1x1x512x128 .bf16) (q : Vec F S512x1536 .bf16) (o : Vec F S512x512 .bf16) : FVec F S1x1x512x128 .bf16 :=
  k0_pay17 (k0_pay15 x q) (k0_pay16 x q) o

/-- The partial result of batch `b` of device `t`'s rows with device `s`'s heads, rounded. -/
def ch (t s : Dev nD) (b : Fin 2) : FVec F S1x1x512x128 .bf16 := chunkB (xb A t b) (WQ A s) (WO A s)
/-- The contents of `d_send` on `c`. -/
def DS (c : Dev nD) : Vec F S7x2x512x128 .bf16 := fun i => ch A (dn c (i 0).val) c (i 1) (ix4 0 0 (i 2) (i 3))
/-- The contents of `d_recv` on `c`. -/
def DR (c : Dev nD) : Vec F S8x2x512x128 .bf16 := fun i => ch A c (i 0) (i 1) (ix4 0 0 (i 2) (i 3))

/-- One accumulation: `a` and a received block. -/
def accStep (a : Vec F S1x512x128 .f32) (d : Vec F S1x1x512x128 .bf16) : FVec F S1x512x128 .f32 := k0_pay60 a d
/-- Batch `b` of the accumulator on `c` after `n` accumulations. -/
def ACC (c : Dev nD) (b : Fin 2) : ℕ → FVec F S1x512x128 .f32
  | 0 => chunkA (xb A c b) (WQ A c) (WO A c)
  | n + 1 => accStep (ACC c b n) (ch A c (up c n) b)
/-- The contents of the accumulator on `c` when batch 0 has taken `n0` blocks and batch 1 `n1`, its own counted. -/
def accF (c : Dev nD) (n0 n1 : ℕ) : Vec F S2x512x128 .f32 := fun i =>
  ACC A c (i 0) ((if (i 0).val = 0 then n0 else n1) - 1) (ix3 0 (i 1) (i 2))
/-- The contents of the result on `c`. -/
def OUT (c : Dev nD) : Vec F S2x128x512 .f32 := fun i => k0_pay80 (ACC A c (i 0) 7) (ix3 0 (i 1) (i 2))

/-! ## The payloads are instances -/

section Payloads

variable (x : Vec F S1x1x512x128 .bf16) (q : Vec F S512x1536 .bf16) (o : Vec F S512x512 .bf16)
variable (a : Vec F S1x512x128 .f32) (d : Vec F S1x1x512x128 .bf16)

/-- The zeroes a product starts from. -/
abbrev zeroO : FVec F S512x128 .f32 := constant S512x128 .f32 0x00000000#32
abbrev zeroV : FVec F S8x64x128 .f32 := constant S8x64x128 .f32 0x00000000#32
/-- The scale of the scores. -/
abbrev eighth : F .f32 := Scalar.ofBits .f32 0x3E000000#32

theorem pay2_eq (v : Vec F S1x128x512 .f32) : k0_pay2 v = k0_pay1 v := rfl
theorem pay13_eq : k0_pay13 o (k0_pay12 x q) zeroO = chunkA x q o := rfl
theorem pay23_eq : k0_pay23 (k0_pay19 x q) (k0_pay21 x q) (k0_pay22 x q) zeroV o = chunkB x q o := rfl
theorem pay24_eq : k0_pay24 x q o = chunkB x q o := rfl
theorem pay25_eq : k0_pay25 x q o = chunkB x q o := rfl
theorem pay30_eq : k0_pay30 (k0_pay27 x q) (k0_pay28 x q) k0_pay29 o = chunkB x q o := rfl
theorem pay35_eq : k0_pay35 (k0_pay32 x q) (k0_pay33 x q) (k0_pay34 x q) o = chunkB x q o := rfl
theorem pay37_eq : k0_pay37 (k0_pay36 x q o) = chunkB x q o := rfl
theorem pay38_eq : k0_pay38 x q o = chunkB x q o := rfl
theorem pay43_eq : k0_pay43 (k0_pay40 x q) (k0_pay41 x q) (k0_pay42 x q) o = chunkB x q o := rfl
theorem pay47_eq : k0_pay47 (k0_pay45 x q) (k0_pay46 x q) eighth o = chunkB x q o := rfl
theorem pay49_eq : k0_pay49 o (k0_pay48 x q) zeroO = chunkB x q o := rfl
theorem pay51_eq : k0_pay51 (k0_pay50 x q o) = chunkB x q o := rfl
theorem pay54_eq : k0_pay54 (k0_pay52 x q) (k0_pay53 x q) o = chunkB x q o := rfl
theorem pay58_eq : k0_pay58 (k0_pay55 x q) (k0_pay56 x q) (k0_pay57 x q) o = chunkB x q o := rfl

theorem pay59_eq : k0_pay59 a d = accStep a d := rfl
theorem pay61_eq : k0_pay61 a d = accStep a d := rfl
theorem pay63_eq : k0_pay63 (k0_pay62 a d) = accStep a d := rfl
theorem pay64_eq : k0_pay64 a d = accStep a d := rfl
theorem pay66_eq : k0_pay66 (k0_pay65 a d) = accStep a d := rfl
theorem pay67_eq : k0_pay67 a d = accStep a d := rfl
theorem pay69_eq : k0_pay69 (k0_pay68 a d) = accStep a d := rfl
theorem pay70_eq : k0_pay70 a d = accStep a d := rfl
theorem pay73_eq : k0_pay73 (k0_pay71 a) (k0_pay72 d) = accStep a d := rfl
theorem pay74_eq : k0_pay74 a d = accStep a d := rfl
theorem pay76_eq : k0_pay76 (k0_pay75 a) d = accStep a d := rfl
theorem pay77_eq : k0_pay77 a d = accStep a d := rfl
theorem pay79_eq : k0_pay79 (k0_pay78 a) d = accStep a d := rfl
theorem pay81_eq : k0_pay81 a = k0_pay80 a := rfl

end Payloads

end Cert.KernelIdeal.Run
-- ==== Proof.KernelIdeal.Slots.lean ====
/-
# The slots: parts of the buffers, as sets of indices, and the views the program reaches them through

`x_all` and `d_recv` hold one slot per device, `d_send` one per step; a slot is the elements of one leading coordinate.
A transfer reads or writes a whole slot, a load or store one batch of it.
-/
module

public import proofs.«01_k».proof.Proof.KernelIdeal.Contents

@[expose] public section

set_option maxRecDepth 16384

noncomputable section

namespace Cert.KernelIdeal.Run

open Cert.KernelIdeal Cert.KernelIdeal.Gen
open Idealize.ShloMosaic Idealize.ShloMosaic.ValueIdx

variable {F : FTy → Type} [FloatOps F]

/-! ## The buffers -/

abbrev xM : Memref sig .tc .vmem S8x2x512x128 .bf16 := Memref.whole cc0_scratch0
abbrev sM : Memref sig .tc .vmem S7x2x512x128 .bf16 := Memref.whole cc0_scratch1
abbrev rM : Memref sig .tc .vmem S8x2x512x128 .bf16 := Memref.whole cc0_scratch2
abbrev aM : Memref sig .tc .vmem S2x512x128 .f32 := Memref.whole cc0_scratch3
abbrev qM : Memref sig .tc .vmem S512x1536 .bf16 := Memref.whole cc0_scratch4
abbrev oM : Memref sig .tc .vmem S512x512 .bf16 := Memref.whole cc0_scratch5
abbrev gM0 : Memref sig .tc .vmem S2x128x512 .f32 := Memref.whole cc0_stg0_0
abbrev gM1 : Memref sig .tc .vmem S512x512 .f32 := Memref.whole cc0_stg1_0
abbrev gM2 : Memref sig .tc .vmem S512x512 .f32 := Memref.whole cc0_stg2_0
abbrev gM3 : Memref sig .tc .vmem S512x512 .f32 := Memref.whole cc0_stg3_0
abbrev gM4 : Memref sig .tc .vmem S512x512 .f32 := Memref.whole cc0_stg4_0
abbrev gM5 : Memref sig .tc .vmem S2x128x512 .f32 := Memref.whole cc0_stg5_0

/-- A slot of eight, or of seven, as a transfer names it. -/
abbrev slot8 (M : Memref sig .tc .vmem S8x2x512x128 .bf16) (o : Fin 4 → ℕ)
    (h : ∀ a, o a + S1x2x512x128.size a ≤ S8x2x512x128.size a) : Memref sig .tc .vmem S2x512x128 .bf16 :=
  (M.slice (Rect.unit (s := S8x2x512x128) o S1x2x512x128.size h) (fun _ => rfl)).squeeze S2x512x128 squeezes_S1x2x512x128_S2x512x128
abbrev slot7 (M : Memref sig .tc .vmem S7x2x512x128 .bf16) (o : Fin 4 → ℕ)
    (h : ∀ a, o a + S1x2x512x128.size a ≤ S7x2x512x128.size a) : Memref sig .tc .vmem S2x512x128 .bf16 :=
  (M.slice (Rect.unit (s := S7x2x512x128) o S1x2x512x128.size h) (fun _ => rfl)).squeeze S2x512x128 squeezes_S1x2x512x128_S2x512x128

/-- The elements of a slot. -/
def set8 (s : Dev nD) : Finset S8x2x512x128.Idx := Finset.univ.filter fun i => (i 0).val = s.val
def set7 (k : Fin 7) : Finset S7x2x512x128.Idx := Finset.univ.filter fun i => (i 0).val = k.val

theorem mem_set8 {s : Dev nD} {i : S8x2x512x128.Idx} : i ∈ set8 s ↔ (i 0).val = s.val := by simp [set8]
theorem mem_set7 {k : Fin 7} {i : S7x2x512x128.Idx} : i ∈ set7 k ↔ (i 0).val = k.val := by simp [set7]

theorem set8_disj {s t : Dev nD} (h : s ≠ t) : Disjoint (set8 s) (set8 t) :=
  Finset.disjoint_left.mpr fun i hs ht => h (Fin.ext ((mem_set8.mp hs).symm.trans (mem_set8.mp ht)))
theorem set7_disj {s t : Fin 7} (h : s ≠ t) : Disjoint (set7 s) (set7 t) :=
  Finset.disjoint_left.mpr fun i hs ht => h (Fin.ext ((mem_set7.mp hs).symm.trans (mem_set7.mp ht)))
theorem set8_cover : (Finset.univ : Finset (Dev nD)).biUnion set8 = Finset.univ := by
  ext i; simp only [Finset.mem_biUnion, Finset.mem_univ, true_and, iff_true]
  exact ⟨i 0, mem_set8.mpr rfl⟩
theorem set7_cover : (Finset.univ : Finset (Fin 7)).biUnion set7 = Finset.univ := by
  ext i; simp only [Finset.mem_biUnion, Finset.mem_univ, true_and, iff_true]
  exact ⟨i 0, mem_set7.mpr rfl⟩

/-! ## Where a slot's view places its elements -/

theorem squeeze_ix (h : S2x512x128.numel = S1x2x512x128.numel) (j : S2x512x128.Idx) :
    Shape.reshapeEquiv h j = (Fin.cons ⟨0, Nat.one_pos⟩ j : S1x2x512x128.Idx) :=
  Shape.reshapeEquiv_cons_one (n := 3) (d := ![2, 512, 128]) h j

theorem emb8 (s : Dev nD) (M : Memref sig .tc .vmem S8x2x512x128 .bf16) (h) (j : S2x512x128.Idx) :
    (slot8 M ![s.val, 0, 0, 0] h).view.emb j = M.view.emb (ix4 s (j 0) (j 1) (j 2)) := by
  show M.view.emb ((Rect.unit (s := S8x2x512x128) ![s.val, 0, 0, 0] S1x2x512x128.size h).emb (Shape.reshapeEquiv _ j)) = _
  rw [squeeze_ix]
  congr 1
  funext a
  apply Fin.ext
  rw [Rect.emb_apply]
  match a with
  | ⟨0, _⟩ => show s.val + 1 * 0 = s.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega

theorem emb7 (k : Fin 7) (M : Memref sig .tc .vmem S7x2x512x128 .bf16) (h) (j : S2x512x128.Idx) :
    (slot7 M ![k.val, 0, 0, 0] h).view.emb j = M.view.emb (ix4 k (j 0) (j 1) (j 2)) := by
  show M.view.emb ((Rect.unit (s := S7x2x512x128) ![k.val, 0, 0, 0] S1x2x512x128.size h).emb (Shape.reshapeEquiv _ j)) = _
  rw [squeeze_ix]
  congr 1
  funext a
  apply Fin.ext
  rw [Rect.emb_apply]
  match a with
  | ⟨0, _⟩ => show k.val + 1 * 0 = k.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega

theorem mem_vset {sp : Space} {sh : Shape} {e : EltTy} {v : View sig .tc sp sh e} {i : v.ty.Idx} : i ∈ v.set ↔ ∃ j, v.emb j = i := by
  simp [View.set]

theorem slot_x_set (s : Dev nD) (h) : (slot8 xM ![s.val, 0, 0, 0] h).view.set = set8 s := by
  ext i
  rw [mem_vset, mem_set8]
  constructor
  · rintro ⟨j, hj⟩; rw [emb8] at hj; rw [← hj]; rfl
  · intro hi; exact ⟨ix3 (i 1) (i 2) (i 3), by
      rw [emb8]; show ix4 s (i 1) (i 2) (i 3) = i
      rw [eq_ix4 (n0 := 8) (n1 := 2) (n2 := 512) (n3 := 128) i]; congr 1; exact Fin.ext hi.symm⟩
theorem slot_r_set (s : Dev nD) (h) : (slot8 rM ![s.val, 0, 0, 0] h).view.set = set8 s := slot_x_set s h
theorem slot_s_set (k : Fin 7) (h) : (slot7 sM ![k.val, 0, 0, 0] h).view.set = set7 k := by
  ext i
  rw [mem_vset, mem_set7]
  constructor
  · rintro ⟨j, hj⟩; rw [emb7] at hj; rw [← hj]; rfl
  · intro hi; exact ⟨ix3 (i 1) (i 2) (i 3), by
      rw [emb7]; show ix4 k (i 1) (i 2) (i 3) = i
      rw [eq_ix4 (n0 := 7) (n1 := 2) (n2 := 512) (n3 := 128) i]; congr 1; exact Fin.ext hi.symm⟩

/-- The credit of a transfer: one slot's, the same on every buffer. -/
abbrev N : ℕ := (slot8 xM ![0, 0, 0, 0] (by decide)).view.dmaCredit
theorem N_pos : 0 < N := View.dmaCredit_pos _ (by decide)
theorem credit_x (o h) : (slot8 xM o h).view.dmaCredit = N := rfl
theorem credit_r (o h) : (slot8 rM o h).view.dmaCredit = N := rfl
theorem credit_s (o h) : (slot7 sM o h).view.dmaCredit = N := rfl

/-! ## A transfer of a slot -/

/-- What a slot of `x_all` receives from the same slot of another device. -/
theorem landed_x (s : Dev nD) (h h') (f g : Vec F S8x2x512x128 .bf16) :
    ∀ i ∈ set8 s, (slot8 xM ![s.val, 0, 0, 0] h).view.write (Elt F) f ((slot8 xM ![s.val, 0, 0, 0] h').view.read (Elt F) g) Finset.univ i = g i := by
  intro i hi
  rw [← slot_x_set s h, mem_vset] at hi
  obtain ⟨j, rfl⟩ := hi
  rw [View.write_emb_of_mem _ _ (Finset.mem_univ j)]
  rfl

/-- What slot `s` of `d_recv` receives from slot `k` of `d_send`. -/
theorem landed_r (s : Dev nD) (k : Fin 7) (h h') (f : Vec F S8x2x512x128 .bf16) (g : Vec F S7x2x512x128 .bf16) (g' : Vec F S8x2x512x128 .bf16)
    (hg : ∀ b i j, g (ix4 k b i j) = g' (ix4 s b i j)) :
    ∀ i ∈ set8 s, (slot8 rM ![s.val, 0, 0, 0] h).view.write (Elt F) f ((slot7 sM ![k.val, 0, 0, 0] h').view.read (Elt F) g) Finset.univ i = g' i := by
  intro i hi
  rw [← slot_r_set s h, mem_vset] at hi
  obtain ⟨j, rfl⟩ := hi
  rw [View.write_emb_of_mem _ _ (Finset.mem_univ j)]
  show g ((slot7 sM ![k.val, 0, 0, 0] h').view.emb j) = g' ((slot8 rM ![s.val, 0, 0, 0] h).view.emb j)
  rw [emb7, emb8]
  exact hg _ _ _

/-! ## Loads and stores of one batch

Every access of the kernel is through a unit-stride rectangle of a whole buffer. What a load gives and what a store leaves
are stated by coordinates: element `j` of the rectangle sits at offset plus `j`. -/

section Access

variable {b : Ref sig .tc}

/-- The element of a whole buffer at place `j` of a rectangle. -/
theorem access_emb (r : Rect b.ty.shape) (j : r.shape.Idx) : ((Memref.whole b).access r : View sig .tc _ _ _).emb j = r.emb j := rfl

theorem access_read (r : Rect b.ty.shape) (f : b.ty.Contents (Elt F)) :
    (Memref.whole b : Memref sig .tc _ _ _).view.readAt (Elt F) r.toLoadRect f = fun j => f (r.emb j) := rfl

end Access

end Cert.KernelIdeal.Run
-- ==== Proof.KernelIdeal.Sched.lean ====
/-
# The protocol: the cells, what each payment hands over, and what each device owes at launch

Every device has one barrier cell, a send cell per step and a receive cell per device for each of the two exchanges.
One round each:

* the barrier cell of `c` is paid one unit by each of the seven others; device `up c j` hands over, with its unit, the two
  slots numbered `c` of its own `x_all` and `d_recv` — the places `c` will write;
* receive cell `s` of the first exchange hands slot `s` of `x_all` back, filled; the send cell of step `k` hands back the
  share of the sender's own slot the copy was reading;
* receive cell `s` of the second exchange hands slot `s` of `d_recv` back, filled; the send cell of step `k` the slot `k`
  of `d_send`.

A device waits on a cell only while everything it still owes lies above that cell: barrier cells at level 1, the receive
cells of the first exchange at 2, those of the second at 3.
-/
module

public import proofs.«01_k».proof.Proof.KernelIdeal.Slots
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore. -/
abbrev barS : Sem sig := (SemArray.scalar (sig.barrier 0 rfl) : Sems sig S_).sem

/-- The kernel's semaphores by what they are for. -/
inductive Cell where
  | bar
  | agS (k : Fin 7)
  | agR (s : Dev nD)
  | rsS (k : Fin 7)
  | rsR (s : Dev nD)
  deriving DecidableEq

/-- The semaphore of a cell. -/
def sem : Cell → SemLoc sig
  | .bar => .reg barS
  | .agS k => .dma ⟨6 + k.val, by show _ < 36; omega⟩
  | .agR s => .dma ⟨13 + s.val, by have : s.val < 8 := s.isLt; show _ < 36; omega⟩
  | .rsS k => .dma ⟨21 + k.val, by show _ < 36; omega⟩
  | .rsR s => .dma ⟨28 + s.val, by have : s.val < 8 := s.isLt; show _ < 36; omega⟩

/-- The cell of a semaphore, if it is one of these. -/
def cellOf? : SemLoc sig → Option Cell
  | .reg s => if s = barS then some .bar else none
  | .dma q =>
    if h : q.val < 6 then none
    else if h1 : q.val < 13 then some (.agS ⟨q.val - 6, by omega⟩)
    else if h2 : q.val < 21 then some (.agR ⟨q.val - 13, by show _ < 8; omega⟩)
    else if h3 : q.val < 28 then some (.rsS ⟨q.val - 21, by omega⟩)
    else if h4 : q.val < 36 then some (.rsR ⟨q.val - 28, by show _ < 8; omega⟩)
    else none

theorem cellOf_sem (k : Cell) : cellOf? (sem k) = some k := by
  cases k with
  | bar => rfl
  | agS k => revert k; decide
  | agR k => revert k; decide
  | rsS k => revert k; decide
  | rsR k => revert k; decide

theorem sem_inj {k k' : Cell} (h : sem k = sem k') : k = k' := by
  have := congrArg cellOf? h
  rw [cellOf_sem, cellOf_sem] at this
  exact Option.some.inj this

/-- The cell on a device. -/
abbrev cell (c : Dev nD) (k : Cell) : GSem nD τ sig := ((c : Thread nD τ), sem k)

theorem agS_sem (k : Fin 7) (h) : SemLoc.dma ((cc0_scratch6.slice (Rect.unit (s := S7) ![k.val] S1.size h)).squeeze S_ squeezes_S1_S_).sem = sem (.agS k) := by
  revert k; decide
theorem agR_sem (s : Dev nD) (h) : SemLoc.dma ((cc0_scratch7.slice (Rect.unit (s := S8) ![s.val] S1.size h)).squeeze S_ squeezes_S1_S_).sem = sem (.agR s) := by
  revert s; decide
theorem rsS_sem (k : Fin 7) (h) : SemLoc.dma ((cc0_scratch8.slice (Rect.unit (s := S7) ![k.val] S1.size h)).squeeze S_ squeezes_S1_S_).sem = sem (.rsS k) := by
  revert k; decide
theorem rsR_sem (s : Dev nD) (h) : SemLoc.dma ((cc0_scratch9.slice (Rect.unit (s := S8) ![s.val] S1.size h)).squeeze S_ squeezes_S1_S_).sem = sem (.rsR s) := by
  revert s; decide

/-! ## The schedule -/

variable (A : Args F)

/-- A slot of `x_all`, or of `d_recv`, or of `d_send`, on device `c`. -/
def xPts (c s : Dev nD) (q : PosShare TreeShare) (f : Vec F S8x2x512x128 .bf16) : sProp 𝕄 :=
  ((c : Thread nD τ).loc cc0_scratch0) ↦[set8 s]{q} f
def rPts (c s : Dev nD) (f : Vec F S8x2x512x128 .bf16) : sProp 𝕄 :=
  ((c : Thread nD τ).loc cc0_scratch2) ↦[set8 s]{fullShare} f
def sPts (c : Dev nD) (k : Fin 7) (f : Vec F S7x2x512x128 .bf16) : sProp 𝕄 :=
  ((c : Thread nD τ).loc cc0_scratch1) ↦[set7 k]{fullShare} f

/-- The two slots numbered `c` of device `t`, holding anything. -/
def handed (t c : Dev nD) : sProp 𝕄 := iprop((∃ f, xPts t c fullShare f) ∗ ∃ f, rPts t c f)

/-- What a payment into cell `k` of device `c` hands over. -/
def pay (c : Dev nD) : Cell → Fin 7 → sProp 𝕄
  | .bar, j => handed (up c j.val) c
  | .agS k, _ => xPts c c (shareTok fullShare 7 k) (XA A)
  | .agR s, _ => xPts c s fullShare (XA A)
  | .rsS k, _ => sPts c k (DS A c)
  | .rsR s, _ => rPts c s (DR A c)

instance xPts_storable (c s q f) : BI.Storable (upEmb : UEmb _ 𝕄) (xPts (F := F) c s q f) := by unfold xPts; infer_instance
instance rPts_storable (c s f) : BI.Storable (upEmb : UEmb _ 𝕄) (rPts (F := F) c s f) := by unfold rPts; infer_instance
instance sPts_storable (c k f) : BI.Storable (upEmb : UEmb _ 𝕄) (sPts (F := F) c k f) := by unfold sPts; infer_instance
instance handed_storable (t c) : BI.Storable (upEmb : UEmb _ 𝕄) (handed (F := F) t c) := by unfold handed; infer_instance
instance pay_storable (c k j) : BI.Storable (upEmb : UEmb _ 𝕄) (pay A c k j) := by
  cases k <;> (unfold pay; infer_instance)

/-- The duties of cell `k` of device `c`. -/
def duties (c : Dev nD) : Cell → Finset (Fin 7)
  | .bar => Finset.univ
  | .agS _ => {0}
  | .agR s => if s = c then ∅ else {0}
  | .rsS _ => {0}
  | .rsR s => if s = c then ∅ else {0}

/-- What a payment into a cell counts. -/
def amt : Cell → ℕ
  | .bar => 1
  | _ => N

def Rd : Rounds.Schedule (GSem nD τ sig) (Fin 7) 𝕄 where
  duties g r := if r = 0 ∧ g.1.2 = .tc then (cellOf? g.2).elim ∅ (duties g.1.1) else ∅
  unitless _ := False
  amount g _ _ := (cellOf? g.2).elim 1 amt
  payload g _ j := (cellOf? g.2).elim iprop(emp) fun k => pay A g.1.1 k j
  amount_pos g _ _ _ := by
    cases h : cellOf? g.2 with
    | none => exact Nat.one_pos
    | some k => cases k <;> first | exact Nat.one_pos | exact N_pos

instance Rd_payload_storable (g : GSem nD τ sig) (r : ℕ) (j : Fin 7) :
    BI.Storable (upEmb : UEmb _ 𝕄) ((Rd A).payload g r j) := by
  show BI.Storable upEmb ((cellOf? g.2).elim iprop(emp) fun k => pay A g.1.1 k j)
  cases cellOf? g.2 with
  | none => show BI.Storable upEmb iprop(emp); infer_instance
  | some k => exact pay_storable A _ _ _

theorem duties_eq (c : Dev nD) (k : Cell) : (Rd A).duties (cell c k) 0 = duties c k := by
  have h : (0 : ℕ) = 0 ∧ (cell c k).1.2 = .tc := ⟨rfl, rfl⟩
  unfold Rd
  dsimp only
  rw [if_pos h, show cellOf? (cell c k).2 = some k from cellOf_sem k]; rfl
theorem duties_later (g : GSem nD τ sig) : ∀ r, 1 ≤ r → (Rd A).duties g r = ∅ :=
  fun r hr => if_neg fun h => by omega
theorem amount_eq (c : Dev nD) (k : Cell) (j : Fin 7) : (Rd A).amount (cell c k) 0 j = amt k := by
  show (cellOf? (cell c k).2).elim 1 amt = _
  rw [show cellOf? (cell c k).2 = some k from cellOf_sem k]; rfl
theorem payload_eq (c : Dev nD) (k : Cell) (j : Fin 7) : (Rd A).payload (cell c k) 0 j = pay A c k j := by
  show (cellOf? (cell c k).2).elim iprop(emp) (fun k => pay A c k j) = _
  rw [show cellOf? (cell c k).2 = some k from cellOf_sem k]; rfl

theorem expect_bar (c : Dev nD) : (Rd A).expect (cell c .bar) 0 = 7 := by
  unfold Schedule.expect Schedule.amountOf
  rw [duties_eq, Finset.sum_congr rfl fun d _ => amount_eq A c .bar d]; rfl
theorem expect_one (c : Dev nD) (k : Cell) (h : duties c k = {0}) (hn : amt k = N) : (Rd A).expect (cell c k) 0 = N := by
  unfold Schedule.expect Schedule.amountOf
  rw [duties_eq, h, Finset.sum_singleton, amount_eq, hn]

theorem rest_bar (c : Dev nD) : bigSep ((Rd A).duties (cell c .bar) 0 \ ∅) (fun d => (Rd A).payload (cell c .bar) 0 d)
    = bigSep Finset.univ fun j : Fin 7 => handed (F := F) (up c j.val) c := by
  rw [Finset.sdiff_empty, duties_eq]
  exact BI.bigSep_congr fun j _ => payload_eq A c .bar j
theorem rest_one (c : Dev nD) (k : Cell) (h : duties c k = {0}) :
    bigSep ((Rd A).duties (cell c k) 0 \ ∅) (fun d => (Rd A).payload (cell c k) 0 d) = pay A c k 0 := by
  rw [Finset.sdiff_empty, duties_eq, h, bigSep_singleton, payload_eq]

theorem duties_agR {c s : Dev nD} (h : s ≠ c) : duties c (.agR s) = {0} := if_neg h
theorem duties_rsR {c s : Dev nD} (h : s ≠ c) : duties c (.rsR s) = {0} := if_neg h

/-! ## What is owed -/

/-- What remains of a sum over the seven steps when `n` steps are done. -/
def rem {M : Type} [AddCommMonoid M] (f : Fin 7 → M) (n : ℕ) : M := ∑ k : Fin 7, if k.val < n then 0 else f k

theorem rem_zero {M : Type} [AddCommMonoid M] (f : Fin 7 → M) : rem f 0 = ∑ k, f k :=
  Finset.sum_congr rfl fun k _ => if_neg (Nat.not_lt_zero _)
theorem rem_done {M : Type} [AddCommMonoid M] (f : Fin 7 → M) : rem f 7 = 0 :=
  Finset.sum_eq_zero fun k _ => if_pos k.isLt
theorem rem_step {M : Type} [AddCommMonoid M] (f : Fin 7 → M) (k : Fin 7) : rem f k.val = rem f (k.val + 1) + f k := by
  have h : ∀ j : Fin 7, (if j.val < k.val then 0 else f j) = (if j.val < k.val + 1 then 0 else f j) + if j = k then f j else 0 := by
    intro j
    by_cases hjk : j = k
    · subst hjk; rw [if_neg (lt_irrefl _), if_pos (Nat.lt_succ_self _), if_pos rfl, zero_add]
    · have hv : j.val ≠ k.val := fun h => hjk (Fin.ext h)
      rw [if_neg hjk, add_zero]
      by_cases hlt : j.val < k.val
      · rw [if_pos hlt, if_pos (Nat.lt_succ_of_lt hlt)]
      · rw [if_neg hlt, if_neg (by omega)]
  unfold rem
  rw [Finset.sum_congr rfl fun j _ => h j, Finset.sum_add_distrib, Finset.sum_ite_eq' Finset.univ k f, if_pos (Finset.mem_univ k)]

/-- What device `c` still owes when it has signalled `bn` barriers, and started `ag` copies of the first exchange and `rs`
    of the second. -/
def Owe (c : Dev nD) (bn ag rs : ℕ) : CellTallies nD τ sig Unit :=
  (rem (fun k : Fin 7 => tallyAt (cell (dn c k.val) (.rsR c)) () N) rs
    + rem (fun k : Fin 7 => tallyAt (cell (up c k.val) (.agR c)) () N) ag)
    + rem (fun k : Fin 7 => tallyAt (cell (up c k.val) .bar) () 1) bn

theorem Owe_bar (c : Dev nD) (k : Fin 7) (ag rs : ℕ) :
    Owe c k.val ag rs = Owe c (k.val + 1) ag rs + tallyAt (cell (up c k.val) .bar) () 1 := by
  unfold Owe; rw [rem_step _ k, ← add_assoc]
theorem Owe_ag (c : Dev nD) (k : Fin 7) (rs : ℕ) :
    Owe c 7 k.val rs = Owe c 7 (k.val + 1) rs + tallyAt (cell (up c k.val) (.agR c)) () N := by
  unfold Owe; rw [rem_done, add_zero, add_zero, rem_step _ k, ← add_assoc]
theorem Owe_rs (c : Dev nD) (k : Fin 7) :
    Owe c 7 7 k.val = Owe c 7 7 (k.val + 1) + tallyAt (cell (dn c k.val) (.rsR c)) () N := by
  unfold Owe; rw [rem_done, rem_done, add_zero, add_zero, add_zero, add_zero, rem_step _ k]
theorem Owe_done (c : Dev nD) : Owe c 7 7 7 = 0 := by
  unfold Owe; rw [rem_done, rem_done, rem_done, add_zero, add_zero]

theorem rem_pos {f : Fin 7 → CellTallies nD τ sig Unit} {n : ℕ} {g : GSem nD τ sig} {u : Unit} (h : 0 < rem f n g u) :
    ∃ k : Fin 7, n ≤ k.val ∧ 0 < f k g u := by
  by_contra hc
  push Not at hc
  have : rem f n g u = 0 := by
    unfold rem
    rw [Finset.sum_apply, Finsupp.finset_sum_apply]
    refine Finset.sum_eq_zero fun k _ => ?_
    by_cases hk : k.val < n
    · rw [if_pos hk]; rfl
    · rw [if_neg hk]; exact Nat.le_zero.mp (hc k (Nat.le_of_not_lt hk))
  omega

theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem Owe_pos {c : Dev nD} {bn ag rs : ℕ} {g : GSem nD τ sig} {u : Unit} (h : 0 < Owe c bn ag rs g u) :
    (∃ k : Fin 7, rs ≤ k.val ∧ g = cell (dn c k.val) (.rsR c)) ∨ (∃ k : Fin 7, ag ≤ k.val ∧ g = cell (up c k.val) (.agR c))
      ∨ ∃ k : Fin 7, bn ≤ k.val ∧ g = cell (up c k.val) .bar := by
  unfold Owe at h
  rw [Pi.add_apply, Finsupp.add_apply, Pi.add_apply, Finsupp.add_apply] at h
  rcases Nat.add_pos_iff_pos_or_pos.mp h with h | h
  · rcases Nat.add_pos_iff_pos_or_pos.mp h with h | h
    · obtain ⟨k, hk, hp⟩ := rem_pos h; exact .inl ⟨k, hk, tallyAt_pos hp⟩
    · obtain ⟨k, hk, hp⟩ := rem_pos h; exact .inr (.inl ⟨k, hk, tallyAt_pos hp⟩)
  · obtain ⟨k, hk, hp⟩ := rem_pos h; exact .inr (.inr ⟨k, hk, tallyAt_pos hp⟩)

/-! ## The levels -/

def L (g : GSem nD τ sig) : Finset Unit := if g.1.2 = .tc then {()} else ∅
def lvl : Cell → ℕ
  | .bar => 1
  | .agR _ => 2
  | .rsR _ => 3
  | _ => 0
def lv (g : GSem nD τ sig) (_ : Unit) : ℕ := (cellOf? g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (cell c k) u = lvl k := by
  show (cellOf? (cell c k).2).elim 0 lvl = _
  rw [show cellOf? (cell c k).2 = some k from cellOf_sem k]; rfl

/-- A wait at a level below everything owed. -/
theorem mayWait (c : Dev nD) (sm : SemLoc sig) (bn ag rs n : ℕ) (hn : ∀ u, lv ((c : Thread nD τ), sm) u ≤ n)
    (hb : bn < 7 → n < 1) (ha : ag < 7 → n < 2) (hr : rs < 7 → n < 3) :
    (levAts L lv : sProp 𝕄) ⊢ MayWait (c : Thread nD τ) sm () (Owe c bn ag rs) := by
  refine MayOwe.of_cut (L := L) (lev := lv) n (fun p hp => by rw [Finset.mem_singleton.mp hp, L_tc]; exact Finset.mem_singleton_self _)
    (fun g u hg => by rcases Owe_pos hg with ⟨k, _, rfl⟩ | ⟨k, _, rfl⟩ | ⟨k, _, rfl⟩ <;> exact Finset.mem_singleton_self _)
    (fun p hp => by rw [Finset.mem_singleton.mp hp]; exact hn _)
    (fun g u hg => by
      rcases Owe_pos hg with ⟨k, hk, rfl⟩ | ⟨k, hk, rfl⟩ | ⟨k, hk, rfl⟩ <;> rw [lv_cell]
      · exact hr (by omega)
      · exact ha (by omega)
      · exact hb (by omega))

/-! ## The cells' invariants -/

/-- The invariant of a cell, under whatever name it was allocated, and that its round 0 is open. -/
def inv (g : GSem nD τ sig) : sProp 𝕄 := iprop((∃ κ, cellInv ER (Rd A) κ g) ∗ reached ER g 0)
instance inv_persistent (g) : BI.Persistent (inv A g) := by unfold inv; infer_instance

/-- The kernel's own semaphores, as the launch counts them, -/
def osem (i : Fin 30) : SemLoc sig := .dma ⟨6 + i.val, by show _ < 36; omega⟩
/-- and with the barrier's. -/
def csem (i : Fin 31) : SemLoc sig := if h : i.val < 30 then osem ⟨i.val, h⟩ else .reg barS

/-- Where a cell stands among them. -/
def ix : Cell → Fin 31
  | .bar => 30
  | .agS k => ⟨k.val, by omega⟩
  | .agR s => ⟨7 + s.val, by have : s.val < 8 := s.isLt; omega⟩
  | .rsS k => ⟨15 + k.val, by omega⟩
  | .rsR s => ⟨22 + s.val, by have : s.val < 8 := s.isLt; omega⟩

theorem csem_ix (k : Cell) : csem (ix k) = sem k := by
  cases k with
  | bar => rfl
  | agS k => revert k; decide
  | agR k => revert k; decide
  | rsS k => revert k; decide
  | rsR k => revert k; decide

abbrev kcell (p : Dev nD × Fin 31) : GSem nD τ sig := ((p.1 : Thread nD τ), csem p.2)

/-- Every cell's invariant, on every device. -/
def records : sProp 𝕄 := bigSep (Finset.univ : Finset (Dev nD × Fin 31)) fun p => inv A (kcell p)
instance records_persistent : BI.Persistent (records A) := by unfold records; infer_instance

theorem records_inv (c : Dev nD) (k : Cell) : records A ⊢ inv A (cell c k) := by
  have h := BI.bigSep_elim (Φ := fun p : Dev nD × Fin 31 => inv A (kcell p)) (Finset.mem_univ (c, ix k))
  have e : kcell (c, ix k) = cell c k := by show (_, csem (ix k)) = _; rw [csem_ix]
  rw [e] at h
  exact h

end Cert.KernelIdeal.Run
-- ==== Proof.KernelIdeal.Steps.lean ====
/-
# One step of the program, for any surrounding state

A state is an assertion `P`. To take a step one says which part of the state the operation uses and what the state is with
that part replaced (`Lens`), and goes on from the new state. A buffer that is being filled is described by what it holds on
the part already written (`pts`): the contents elsewhere are whatever was there.
-/
module

public import proofs.«01_k».proof.Proof.KernelIdeal.Sched

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` of device `c` runs from the present state and ends in `Q`. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} {c : Dev nD} {Q : α → sProp (MT nD τ sig Unit (Elt F) ℕ UU ℕ)}
variable {St St' : sProp (MT nD τ sig Unit (Elt F) ℕ UU ℕ)}

theorem wp_done {a : α} (h : St ⊢ Q a) : St ⊢ Wp c (Prog.ret a : Prog (TpuEff nD τ sig (Elt F) Λ₀ .tc) α) Q := by
  rw [Wp, wp_ret]
  exact BIBase.Entails.trans h fupd_intro

theorem wp_seq {β : Type} {p : Prog (TpuEff nD τ sig (Elt F) Λ₀ .tc) β} {k : β → Prog (TpuEff nD τ sig (Elt F) Λ₀ .tc) α}
    (h : St ⊢ Wp c p (fun a => Wp c (k a) Q)) : St ⊢ Wp c (p >>= k) Q := by
  rw [Wp, Idealize.SL.Sem.wp_bind]; exact h

/-! ## Parts of a state -/

/-- The state `P` has the part `X`, and is `P'` with `Y` in its place. -/
def Lens (P X Y P' : sProp 𝕄) : Prop := P ⊢ iprop(X ∗ (Y -∗ P'))

theorem fam_split (f : Fin 7 → sProp 𝕄) (k : Fin 7) :
    bigSep Finset.univ f = iprop(f k ∗ bigSep (Finset.univ.erase k) f) := BI.bigSep_erase (Finset.mem_univ k)

/-- One member of a family of seven, the others left as they are. -/
theorem fam_at (f g : Fin 7 → sProp 𝕄) (k : Fin 7) (h : ∀ j, j ≠ k → f j = g j) :
    Lens (bigSep Finset.univ f) (f k) (g k) (bigSep Finset.univ g) := by
  unfold Lens
  rw [fam_split f k, fam_split g k,
    BI.bigSep_congr (s := Finset.univ.erase k) (Φ := f) (Ψ := g) fun j hj => h j (Finset.ne_of_mem_erase hj)]
  iintro ⟨H, HR⟩
  isplitl [H]; · iexact H
  iintro Hg
  isplitl [Hg]; · iexact Hg
  iexact HR

/-! ## Loads and stores -/

section Access

variable {s : Shape} {e : EltTy} {m : Memref sig .tc .vmem s e} {q : PosShare TreeShare}
variable {S : Finset (Idx (m.view.loc (c : Thread nD τ)))} {P P' : Idx (m.view.loc (c : Thread nD τ)) → Prop}
variable {g g' : Buf (Elt F) (m.view.loc (c : Thread nD τ))}

/-- The part `S` of the buffer of `m` on device `c`, held at share `q`, which holds `g` wherever `P` says. -/
def pts (q : PosShare TreeShare) (c : Dev nD) (m : Memref sig .tc .vmem s e) (S : Finset (Idx (m.view.loc (c : Thread nD τ))))
    (P : Idx (m.view.loc (c : Thread nD τ)) → Prop) (g : Buf (Elt F) (m.view.loc (c : Thread nD τ))) : sProp 𝕄 :=
  iprop(∃ f : Buf (Elt F) (m.view.loc (c : Thread nD τ)), ⌜∀ i ∈ S, P i → f i = g i⌝ ∗ (m.view.loc (c : Thread nD τ) ↦[S]{q} f))

theorem pts_intro {f : Buf (Elt F) (m.view.loc (c : Thread nD τ))} (h : ∀ i ∈ S, P i → f i = g i) :
    (m.view.loc (c : Thread nD τ) ↦[S]{q} f : sProp 𝕄) ⊢ pts q c m S P g := by
  unfold pts
  iintro H
  iexists f
  isplitr; · ipureintro; exact h
  iexact H

theorem pts_full (h : ∀ i ∈ S, P i) : pts q c m S P g ⊢ (m.view.loc (c : Thread nD τ) ↦[S]{q} g : sProp 𝕄) := by
  unfold pts
  iintro ⟨%f, %hf, H⟩
  have e : (m.view.loc (c : Thread nD τ) ↦[S]{q} f : sProp 𝕄) = (m.view.loc (c : Thread nD τ) ↦[S]{q} g) :=
    pointsTo_congr fun i hi => hf i hi (h i hi)
  iapply (BIBase.Entails.of_eq e)
  iexact H

/-- A load of elements the state knows: the program goes on with them. -/
theorem load_step {r : Rect s} {hl : m.view.LoadsAt r.toLoadRect} {k : (r.shape.Idx → Elt F e) → Prog (TpuEff nD τ sig (Elt F) Λ₀ .tc) α}
    (lens : Lens St (pts q c m S P g) (pts q c m S P g) St) (hS : ∀ j, (m.access r).emb j ∈ S) {v : r.shape.Idx → Elt F e}
    (hv : ∀ f : Buf (Elt F) (m.view.loc (c : Thread nD τ)), (∀ i ∈ S, P i → f i = g i) → m.view.readAt (Elt F) r.toLoadRect f = v)
    (h : St ⊢ Wp c (k v) Q) : St ⊢ Wp c (.op (.load m r.toLoadRect hl) k) Q := by
  have hsub : (m.access r).set ⊆ S := by
    intro i hi
    obtain ⟨j, _, rfl⟩ := Finset.mem_map.mp hi
    exact hS j
  unfold Lens at lens
  refine lens.trans ?_
  unfold pts
  iintro ⟨⟨%f, %hf, H⟩, Hback⟩
  iapply (wp_load_rect (defs := defs₀ (F := F)) 𝒱₀ (c : Thread nD τ) none Set.univ (m := m) (r := r) (f := f) (S := S) (q := q) hsub) $$ H
  iintro H
  have hv' : (m.access r).read (Elt F) f = v := hv f hf
  rw [hv']
  iapply h
  iapply Hback
  iexists f
  isplitr; · ipureintro; exact hf
  iexact H

/-- A load whose value does not matter. -/
theorem load_any {r : Rect s} {hl : m.view.LoadsAt r.toLoadRect} {k : (r.shape.Idx → Elt F e) → Prog (TpuEff nD τ sig (Elt F) Λ₀ .tc) α}
    (lens : Lens St (pts q c m S P g) (pts q c m S P g) St) (hS : ∀ j, (m.access r).emb j ∈ S)
    (h : ∀ v, St ⊢ Wp c (k v) Q) : St ⊢ Wp c (.op (.load m r.toLoadRect hl) k) Q := by
  have hsub : (m.access r).set ⊆ S := by
    intro i hi
    obtain ⟨j, _, rfl⟩ := Finset.mem_map.mp hi
    exact hS j
  unfold Lens at lens
  refine lens.trans ?_
  unfold pts
  iintro ⟨⟨%f, %hf, H⟩, Hback⟩
  iapply (wp_load_rect (defs := defs₀ (F := F)) 𝒱₀ (c : Thread nD τ) none Set.univ (m := m) (r := r) (f := f) (S := S) (q := q) hsub) $$ H
  iintro H
  iapply (h _)
  iapply Hback
  iexists f
  isplitr; · ipureintro; exact hf
  iexact H

/-- A store: what is known afterwards is what was known outside the place written, and what was written. -/
theorem store_step {r : Rect s} {w : r.shape.Idx → Elt F e} {hx : (m.access r).Stores Finset.univ} {hm : Finset.univ = Finset.univ ∨ ∀ a, r.stride a = 1}
    {k : PUnit.{1} → Prog (TpuEff nD τ sig (Elt F) Λ₀ .tc) α}
    (lens : Lens St (pts fullShare c m S P g) (pts fullShare c m S P' g') St') (hS : ∀ j, (m.access r).emb j ∈ S)
    (hin : ∀ (f : Buf (Elt F) (m.view.loc (c : Thread nD τ))) (j : r.shape.Idx), (m.access r).write (Elt F) f w Finset.univ ((m.access r).emb j) = g' ((m.access r).emb j))
    (hout : ∀ i ∈ S, P' i → (∀ j, (m.access r).emb j ≠ i) → P i ∧ g i = g' i)
    (h : St' ⊢ Wp c (k ⟨⟩) Q) : St ⊢ Wp (F := F) c (Prog.op (TpuEff.store m r w Finset.univ hx hm) k) Q := by
  have hsub : (m.access r).setOn Finset.univ ⊆ S := by
    intro i hi
    obtain ⟨j, _, rfl⟩ := Finset.mem_map.mp hi
    exact hS j
  unfold Lens at lens
  refine lens.trans ?_
  unfold pts
  iintro ⟨⟨%f, %hf, H⟩, Hback⟩
  iapply (wp_store (defs := defs₀ (F := F)) 𝒱₀ (c : Thread nD τ) none Set.univ (m := m) (r := r) (w := w) (Mk := Finset.univ) (f := f) (S := S) hsub) $$ H
  iintro H
  iapply h
  iapply Hback
  iexists ((m.access r).write (Elt F) f w Finset.univ)
  isplitr
  · ipureintro
    intro i hi hP
    by_cases hj : ∃ j, (m.access r).emb j = i
    · obtain ⟨j, rfl⟩ := hj; exact hin f j
    · push Not at hj
      obtain ⟨h1, h2⟩ := hout i hi hP hj
      have hmem : i ∉ (m.access r).setOn Finset.univ := fun hmem => by
        obtain ⟨j, _, hj'⟩ := Finset.mem_map.mp hmem
        exact hj j hj'
      rw [← h2, ← hf i hi h1]
      exact View.write_of_not_mem _ _ _ hmem
  · iexact H

end Access

end Cert.KernelIdeal.Run
-- ==== Proof.KernelIdeal.State.lean ====
/-
# The state of a device, and the steps on its memory

`Me` is what a device knows of its own buffers, by counters: how much of each has been written. `Pr` is where it stands in the
two exchanges: for each of the seven steps of each, what it holds of that step. The steps below load and store; those of the
exchanges are in `Proto`.
-/
module

public import proofs.«01_k».proof.Proof.KernelIdeal.Steps

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## Parts of parts -/

section Lenses

variable {P P' X Y Z W R : sProp (MT nD τ sig Unit (Elt F) ℕ UU ℕ)}

theorem Lens.refl : Lens X X Y Y := by
  unfold Lens; iintro H; isplitl [H]; · iexact H
  iintro H; iexact H
theorem Lens.left (h : Lens P X Y P') : Lens iprop(P ∗ R) X Y iprop(P' ∗ R) := by
  unfold Lens at h ⊢
  iintro ⟨HP, HR⟩
  ihave H := h $$ HP
  icases H with ⟨HX, Hb⟩
  isplitl [HX]; · iexact HX
  iintro HY
  isplitl [Hb HY]; · iapply Hb; iexact HY
  iexact HR
theorem Lens.right (h : Lens P X Y P') : Lens iprop(R ∗ P) X Y iprop(R ∗ P') := by
  unfold Lens at h ⊢
  iintro ⟨HR, HP⟩
  ihave H := h $$ HP
  icases H with ⟨HX, Hb⟩
  isplitl [HX]; · iexact HX
  iintro HY
  isplitl [HR]; · iexact HR
  iapply Hb; iexact HY
theorem Lens.comp (h : Lens P X Y P') (h' : Lens X Z W Y) : Lens P Z W P' := by
  unfold Lens at h h' ⊢
  iintro HP
  ihave H := h $$ HP
  icases H with ⟨HX, Hb⟩
  ihave H := h' $$ HX
  icases H with ⟨HZ, Hb'⟩
  isplitl [HZ]; · iexact HZ
  iintro HW
  iapply Hb; iapply Hb'; iexact HW

end Lenses

variable (A : Args F) (c : Dev nD)

/-! ## The memory -/

/-- The device's own buffers. `b` batches of its own slot of `x_all` are written (it is held at share `sh`), `q` columns of
    `wqkv`, `wo` if `o` is positive; `n0` and `n1` blocks are in the accumulator's two batches, and `u` batches of the
    result are written. -/
def Me (sh : PosShare TreeShare) (b q o n0 n1 u : ℕ) : sProp 𝕄 :=
  iprop(pts fullShare c gM0 Finset.univ (fun _ => True) (A.x c) ∗ pts fullShare c gM1 Finset.univ (fun _ => True) (A.wq c)
    ∗ pts fullShare c gM2 Finset.univ (fun _ => True) (A.wo c) ∗ pts fullShare c gM3 Finset.univ (fun _ => True) (A.wk c)
    ∗ pts fullShare c gM4 Finset.univ (fun _ => True) (A.wv c)
    ∗ pts fullShare c gM5 Finset.univ (fun i : S2x128x512.Idx => (i 0).val < u) (OUT A c)
    ∗ pts fullShare c qM Finset.univ (fun i : S512x1536.Idx => (i 1).val < q) (WQ A c)
    ∗ pts fullShare c oM Finset.univ (fun _ => 0 < o) (WO A c)
    ∗ pts fullShare c aM Finset.univ (fun i : S2x512x128.Idx => 0 < if (i 0).val = 0 then n0 else n1) (accF A c n0 n1)
    ∗ pts sh c xM (set8 c) (fun i : S8x2x512x128.Idx => (i 1).val < b) (XA A))

section Memory

variable {A c}
variable {α : Type} {Q : α → sProp (MT nD τ sig Unit (Elt F) ℕ UU ℕ)} {R : sProp (MT nD τ sig Unit (Elt F) ℕ UU ℕ)}
variable {sh : PosShare TreeShare} {b q o n0 n1 u : ℕ}

/-! Where the rectangles place their elements. -/

theorem emb_row3 {m0 m1 m2 : ℕ} (b : Fin m0) {o : Fin 3 → ℕ} (ho : o = ![b.val, 0, 0]) (h)
    (j : (Rect.unit (s := ⟨3, ![m0, m1, m2]⟩) o (Shape.size ⟨3, ![1, m1, m2]⟩) h).shape.Idx) :
    (Rect.unit (s := ⟨3, ![m0, m1, m2]⟩) o (Shape.size ⟨3, ![1, m1, m2]⟩) h).emb j = ix3 b (j 1) (j 2) := by
  subst ho
  funext a
  apply Fin.ext
  rw [Rect.emb_apply]
  match a with
  | ⟨0, _⟩ =>
    have h0 : (j 0).val < 1 := (j 0).isLt
    show b.val + 1 * (j 0).val = b.val; omega
  | ⟨1, _⟩ => show 0 + 1 * (j 1).val = (j 1).val; omega
  | ⟨2, _⟩ => show 0 + 1 * (j 2).val = (j 2).val; omega

theorem emb_row4 {m0 m1 m2 m3 : ℕ} (s : Fin m0) (b : Fin m1) {o : Fin 4 → ℕ} (ho : o = ![s.val, b.val, 0, 0]) (h)
    (j : (Rect.unit (s := ⟨4, ![m0, m1, m2, m3]⟩) o (Shape.size ⟨4, ![1, 1, m2, m3]⟩) h).shape.Idx) :
    (Rect.unit (s := ⟨4, ![m0, m1, m2, m3]⟩) o (Shape.size ⟨4, ![1, 1, m2, m3]⟩) h).emb j = ix4 s b (j 2) (j 3) := by
  subst ho
  funext a
  apply Fin.ext
  rw [Rect.emb_apply]
  match a with
  | ⟨0, _⟩ =>
    have h0 : (j 0).val < 1 := (j 0).isLt
    show s.val + 1 * (j 0).val = s.val; omega
  | ⟨1, _⟩ =>
    have h0 : (j 1).val < 1 := (j 1).isLt
    show b.val + 1 * (j 1).val = b.val; omega
  | ⟨2, _⟩ => show 0 + 1 * (j 2).val = (j 2).val; omega
  | ⟨3, _⟩ => show 0 + 1 * (j 3).val = (j 3).val; omega

theorem emb_col2 {m0 m1 w : ℕ} (k : ℕ) {o : Fin 2 → ℕ} (ho : o = ![0, k]) (h)
    (j : (Rect.unit (s := ⟨2, ![m0, m1]⟩) o (Shape.size ⟨2, ![m0, w]⟩) h).shape.Idx) (hk : k + (j 1).val < m1) :
    (Rect.unit (s := ⟨2, ![m0, m1]⟩) o (Shape.size ⟨2, ![m0, w]⟩) h).emb j = ix2 (j 0) ⟨k + (j 1).val, hk⟩ := by
  subst ho
  funext a
  apply Fin.ext
  rw [Rect.emb_apply]
  match a with
  | ⟨0, _⟩ => show 0 + 1 * (j 0).val = (j 0).val; omega
  | ⟨1, _⟩ => show k + 1 * (j 1).val = k + (j 1).val; omega

theorem emb_all2 {m0 m1 : ℕ} {o : Fin 2 → ℕ} (ho : o = ![0, 0]) (h)
    (j : (Rect.unit (s := ⟨2, ![m0, m1]⟩) o (Shape.size ⟨2, ![m0, m1]⟩) h).shape.Idx) :
    (Rect.unit (s := ⟨2, ![m0, m1]⟩) o (Shape.size ⟨2, ![m0, m1]⟩) h).emb j = j := by
  subst ho
  funext a
  apply Fin.ext
  rw [Rect.emb_apply]
  match a with
  | ⟨0, _⟩ => show 0 + 1 * (j 0).val = (j 0).val; omega
  | ⟨1, _⟩ => show 0 + 1 * (j 1).val = (j 1).val; omega

/-! The loads. -/

/-- Batch `i` of the device's rows. -/
theorem ld_x (i : Fin 2) {o3 : Fin 3 → ℕ} (ho : o3 = ![i.val, 0, 0]) {hb} {hl}
    {k : Vec F S1x128x512 .f32 → Prog (TpuEff nD τ sig (Elt F) Λ₀ .tc) α}
    (h : iprop(Me A c sh b q o n0 n1 u ∗ R) ⊢ Wp c (k (xrow A c i)) Q) :
    iprop(Me A c sh b q o n0 n1 u ∗ R)
      ⊢ Wp (F := F) c (.op (.load gM0 (Rect.unit (s := S2x128x512) o3 S1x128x512.size hb).toLoadRect hl) k) Q :=
  load_step (.left (.left .refl)) (fun _ => Finset.mem_univ _) (fun f hf => by
    rw [access_read]; funext j
    rw [hf _ (Finset.mem_univ _) trivial, emb_row3 (m0 := 2) (m1 := 128) (m2 := 512) i ho]; rfl) h

/-- A whole projection matrix. -/
theorem ld_all2 {m0 m1 : ℕ} {e : EltTy} {m : Memref sig .tc .vmem ⟨2, ![m0, m1]⟩ e}
    {g : Buf (Elt F) (m.view.loc (c : Thread nD τ))} {v : Vec F ⟨2, ![m0, m1]⟩ e} {P : Idx (m.view.loc (c : Thread nD τ)) → Prop} (hP : ∀ i, P i)
    (hv : ∀ r : Rect ⟨2, ![m0, m1]⟩, m.view.readAt (Elt F) r.toLoadRect g = fun j => v (r.emb j))
    {o2 : Fin 2 → ℕ} (ho : o2 = ![0, 0]) {hb} {hl} {St : sProp 𝕄}
    {k : Vec F ⟨2, ![m0, m1]⟩ e → Prog (TpuEff nD τ sig (Elt F) Λ₀ .tc) α}
    (lens : Lens St (pts fullShare c m Finset.univ P g) (pts fullShare c m Finset.univ P g) St)
    (h : St ⊢ Wp c (k v) Q) :
    St ⊢ Wp (F := F) c (.op (.load m (Rect.unit (s := ⟨2, ![m0, m1]⟩) o2 (Shape.size ⟨2, ![m0, m1]⟩) hb).toLoadRect hl) k) Q :=
  load_step lens (fun _ => Finset.mem_univ _) (fun f hf => by
    have : f = g := funext fun i => hf i (Finset.mem_univ _) (hP i)
    subst this
    rw [hv]; funext j; rw [emb_all2 ho]) h

theorem ld_wq {o2 : Fin 2 → ℕ} (ho : o2 = ![0, 0]) {hb} {hl}
    {k : Vec F S512x512 .f32 → Prog (TpuEff nD τ sig (Elt F) Λ₀ .tc) α}
    (h : iprop(Me A c sh b q o n0 n1 u ∗ R) ⊢ Wp c (k (A.wq c)) Q) :
    iprop(Me A c sh b q o n0 n1 u ∗ R)
      ⊢ Wp (F := F) c (.op (.load gM1 (Rect.unit (s := S512x512) o2 S512x512.size hb).toLoadRect hl) k) Q :=
  ld_all2 (m := gM1) (fun _ => trivial) (fun r => rfl) ho (.left (.right (.left .refl))) h
theorem ld_wo {o2 : Fin 2 → ℕ} (ho : o2 = ![0, 0]) {hb} {hl}
    {k : Vec F S512x512 .f32 → Prog (TpuEff nD τ sig (Elt F) Λ₀ .tc) α}
    (h : iprop(Me A c sh b q o n0 n1 u ∗ R) ⊢ Wp c (k (A.wo c)) Q) :
    iprop(Me A c sh b q o n0 n1 u ∗ R)
      ⊢ Wp (F := F) c (.op (.load gM2 (Rect.unit (s := S512x512) o2 S512x512.size hb).toLoadRect hl) k) Q :=
  ld_all2 (m := gM2) (fun _ => trivial) (fun r => rfl) ho (.left (.right (.right (.left .refl)))) h
theorem ld_wk {o2 : Fin 2 → ℕ} (ho : o2 = ![0, 0]) {hb} {hl}
    {k : Vec F S512x512 .f32 → Prog (TpuEff nD τ sig (Elt F) Λ₀ .tc) α}
    (h : iprop(Me A c sh b q o n0 n1 u ∗ R) ⊢ Wp c (k (A.wk c)) Q) :
    iprop(Me A c sh b q o n0 n1 u ∗ R)
      ⊢ Wp (F := F) c (.op (.load gM3 (Rect.unit (s := S512x512) o2 S512x512.size hb).toLoadRect hl) k) Q :=
  ld_all2 (m := gM3) (fun _ => trivial) (fun r => rfl) ho (.left (.right (.right (.right (.left .refl))))) h
theorem ld_wv {o2 : Fin 2 → ℕ} (ho : o2 = ![0, 0]) {hb} {hl}
    {k : Vec F S512x512 .f32 → Prog (TpuEff nD τ sig (Elt F) Λ₀ .tc) α}
    (h : iprop(Me A c sh b q o n0 n1 u ∗ R) ⊢ Wp c (k (A.wv c)) Q) :
    iprop(Me A c sh b q o n0 n1 u ∗ R)
      ⊢ Wp (F := F) c (.op (.load gM4 (Rect.unit (s := S512x512) o2 S512x512.size hb).toLoadRect hl) k) Q :=
  ld_all2 (m := gM4) (fun _ => trivial) (fun r => rfl) ho (.left (.right (.right (.right (.right (.left .refl)))))) h

/-- The parts of the memory further right. -/
theorem lens_out {u' : ℕ} : Lens (Me A c sh b q o n0 n1 u) (pts fullShare c gM5 Finset.univ (fun i : S2x128x512.Idx => (i 0).val < u) (OUT A c))
    (pts fullShare c gM5 Finset.univ (fun i : S2x128x512.Idx => (i 0).val < u') (OUT A c)) (Me A c sh b q o n0 n1 u') :=
  .right (.right (.right (.right (.right (.left .refl)))))
theorem lens_q {q' : ℕ} : Lens (Me A c sh b q o n0 n1 u) (pts fullShare c qM Finset.univ (fun i : S512x1536.Idx => (i 1).val < q) (WQ A c))
    (pts fullShare c qM Finset.univ (fun i : S512x1536.Idx => (i 1).val < q') (WQ A c)) (Me A c sh b q' o n0 n1 u) :=
  .right (.right (.right (.right (.right (.right (.left .refl))))))
theorem lens_o {o' : ℕ} : Lens (Me A c sh b q o n0 n1 u) (pts fullShare c oM Finset.univ (fun _ => 0 < o) (WO A c))
    (pts fullShare c oM Finset.univ (fun _ => 0 < o') (WO A c)) (Me A c sh b q o' n0 n1 u) :=
  .right (.right (.right (.right (.right (.right (.right (.left .refl)))))))
theorem lens_a {n0' n1' : ℕ} : Lens (Me A c sh b q o n0 n1 u)
    (pts fullShare c aM Finset.univ (fun i : S2x512x128.Idx => 0 < if (i 0).val = 0 then n0 else n1) (accF A c n0 n1))
    (pts fullShare c aM Finset.univ (fun i : S2x512x128.Idx => 0 < if (i 0).val = 0 then n0' else n1') (accF A c n0' n1'))
    (Me A c sh b q o n0' n1' u) :=
  .right (.right (.right (.right (.right (.right (.right (.right (.left .refl))))))))
theorem lens_own {sh' : PosShare TreeShare} {b' : ℕ} : Lens (Me A c sh b q o n0 n1 u)
    (pts sh c xM (set8 c) (fun i : S8x2x512x128.Idx => (i 1).val < b) (XA A))
    (pts sh' c xM (set8 c) (fun i : S8x2x512x128.Idx => (i 1).val < b') (XA A)) (Me A c sh' b' q o n0 n1 u) :=
  .right (.right (.right (.right (.right (.right (.right (.right (.right .refl))))))))

/-- All of `wqkv`. -/
theorem ld_q {o2 : Fin 2 → ℕ} (ho : o2 = ![0, 0]) {hb} {hl}
    {k : Vec F S512x1536 .bf16 → Prog (TpuEff nD τ sig (Elt F) Λ₀ .tc) α}
    (h : iprop(Me A c sh b 1536 o n0 n1 u ∗ R) ⊢ Wp c (k (WQ A c)) Q) :
    iprop(Me A c sh b 1536 o n0 n1 u ∗ R)
      ⊢ Wp (F := F) c (.op (.load qM (Rect.unit (s := S512x1536) o2 S512x1536.size hb).toLoadRect hl) k) Q :=
  ld_all2 (m := qM) (fun i => (i 1).isLt) (fun r => rfl) ho (.left lens_q) h
/-- All of `wo`. -/
theorem ld_o {o2 : Fin 2 → ℕ} (ho : o2 = ![0, 0]) {hb} {hl}
    {k : Vec F S512x512 .bf16 → Prog (TpuEff nD τ sig (Elt F) Λ₀ .tc) α}
    (h : iprop(Me A c sh b q 1 n0 n1 u ∗ R) ⊢ Wp c (k (WO A c)) Q) :
    iprop(Me A c sh b q 1 n0 n1 u ∗ R)
      ⊢ Wp (F := F) c (.op (.load oM (Rect.unit (s := S512x512) o2 S512x512.size hb).toLoadRect hl) k) Q :=
  ld_all2 (m := oM) (fun i => Nat.one_pos) (fun r => rfl) ho (.left lens_o) h

theorem mem_row8 {s : Dev nD} {i : Fin 2} {o4 : Fin 4 → ℕ} (ho : o4 = ![s.val, i.val, 0, 0]) {hb} (j) :
    (Rect.unit (s := S8x2x512x128) o4 S1x1x512x128.size hb).emb j ∈ set8 s := by
  rw [emb_row4 (m0 := 8) (m1 := 2) (m2 := 512) (m3 := 128) s i ho]; exact mem_set8.mpr rfl
theorem mem_row7 {s : Fin 7} {i : Fin 2} {o4 : Fin 4 → ℕ} (ho : o4 = ![s.val, i.val, 0, 0]) {hb} (j) :
    (Rect.unit (s := S7x2x512x128) o4 S1x1x512x128.size hb).emb j ∈ set7 s := by
  rw [emb_row4 (m0 := 7) (m1 := 2) (m2 := 512) (m3 := 128) s i ho]; exact mem_set7.mpr rfl

/-- A batch of a slot of `x_all`. -/
theorem ld_slot_x {sl : PosShare TreeShare} {St : sProp 𝕄} {s : Dev nD} {P : S8x2x512x128.Idx → Prop} (i : Fin 2) {o4 : Fin 4 → ℕ} (ho : o4 = ![s.val, i.val, 0, 0])
    (hP : ∀ j : S8x2x512x128.Idx, (j 1).val = i.val → P j)
    (lens : Lens St (pts sl c xM (set8 s) P (XA A)) (pts sl c xM (set8 s) P (XA A)) St)
    {hb} {hl} {k : Vec F S1x1x512x128 .bf16 → Prog (TpuEff nD τ sig (Elt F) Λ₀ .tc) α}
    (h : St ⊢ Wp c (k (xb A s i)) Q) :
    St ⊢ Wp (F := F) c (.op (.load xM (Rect.unit (s := S8x2x512x128) o4 S1x1x512x128.size hb).toLoadRect hl) k) Q :=
  load_step lens (fun j => mem_row8 ho j) (fun f hf => by
    rw [access_read]; funext j
    have hj := mem_row8 ho (hb := hb) j
    have he := emb_row4 (m0 := 8) (m1 := 2) (m2 := 512) (m3 := 128) s i ho hb j
    rw [hf _ hj (hP _ (by rw [he])), he]
    show xb A s i (ix4 0 0 (j 2) (j 3)) = xb A s i j
    congr 1
    rw [eq_ix4 (n0 := 1) (n1 := 1) (n2 := 512) (n3 := 128) j]
    have h0 : (j 0).val < 1 := (j 0).isLt
    have h1 : (j 1).val < 1 := (j 1).isLt
    congr 1 <;> (apply Fin.ext; show 0 = _; omega)) h

/-- A batch of a slot of `d_recv`. -/
theorem ld_slot_r {St : sProp 𝕄} {s : Dev nD} (i : Fin 2) {o4 : Fin 4 → ℕ} (ho : o4 = ![s.val, i.val, 0, 0])
    (lens : Lens St (pts fullShare c rM (set8 s) (fun _ => True) (DR A c)) (pts fullShare c rM (set8 s) (fun _ => True) (DR A c)) St)
    {hb} {hl} {k : Vec F S1x1x512x128 .bf16 → Prog (TpuEff nD τ sig (Elt F) Λ₀ .tc) α}
    (h : St ⊢ Wp c (k (ch A c s i)) Q) :
    St ⊢ Wp (F := F) c (.op (.load rM (Rect.unit (s := S8x2x512x128) o4 S1x1x512x128.size hb).toLoadRect hl) k) Q :=
  load_step lens (fun j => mem_row8 ho j) (fun f hf => by
    rw [access_read]; funext j
    have hj := mem_row8 ho (hb := hb) j
    have he := emb_row4 (m0 := 8) (m1 := 2) (m2 := 512) (m3 := 128) s i ho hb j
    rw [hf _ hj trivial, he]
    show ch A c s i (ix4 0 0 (j 2) (j 3)) = ch A c s i j
    congr 1
    rw [eq_ix4 (n0 := 1) (n1 := 1) (n2 := 512) (n3 := 128) j]
    have h0 : (j 0).val < 1 := (j 0).isLt
    have h1 : (j 1).val < 1 := (j 1).isLt
    congr 1 <;> (apply Fin.ext; show 0 = _; omega)) h

/-- A batch of the device's own slot. -/
theorem ld_own (i : Fin 2) {o4 : Fin 4 → ℕ} (ho : o4 = ![c.val, i.val, 0, 0])
    {hb} {hl} {k : Vec F S1x1x512x128 .bf16 → Prog (TpuEff nD τ sig (Elt F) Λ₀ .tc) α}
    (h : iprop(Me A c sh 2 q o n0 n1 u ∗ R) ⊢ Wp c (k (xb A c i)) Q) :
    iprop(Me A c sh 2 q o n0 n1 u ∗ R)
      ⊢ Wp (F := F) c (.op (.load xM (Rect.unit (s := S8x2x512x128) o4 S1x1x512x128.size hb).toLoadRect hl) k) Q :=
  ld_slot_x i ho (fun j _ => (j 1).isLt) (.left lens_own) h

/-- A batch of the accumulator. -/
theorem ld_acc (i : Fin 2) {n : ℕ} (hn : (if i.val = 0 then n0 else n1) = n + 1) {o3 : Fin 3 → ℕ} (ho : o3 = ![i.val, 0, 0]) {hb} {hl}
    {k : Vec F S1x512x128 .f32 → Prog (TpuEff nD τ sig (Elt F) Λ₀ .tc) α}
    (h : iprop(Me A c sh b q o n0 n1 u ∗ R) ⊢ Wp c (k (ACC A c i n)) Q) :
    iprop(Me A c sh b q o n0 n1 u ∗ R)
      ⊢ Wp (F := F) c (.op (.load aM (Rect.unit (s := S2x512x128) o3 S1x512x128.size hb).toLoadRect hl) k) Q :=
  load_step (.left lens_a) (fun _ => Finset.mem_univ _) (fun f hf => by
    rw [access_read]; funext j
    have he := emb_row3 (m0 := 2) (m1 := 512) (m2 := 128) i ho hb j
    rw [hf _ (Finset.mem_univ _) (by rw [he]; show 0 < if i.val = 0 then n0 else n1; rw [hn]; omega), he]
    show ACC A c i ((if i.val = 0 then n0 else n1) - 1) (ix3 0 (j 1) (j 2)) = ACC A c i n j
    rw [hn, Nat.add_sub_cancel]
    congr 1
    rw [eq_ix3 (n0 := 1) (n1 := 512) (n2 := 128) j]
    have h0 : (j 0).val < 1 := (j 0).isLt
    congr 1; apply Fin.ext; show 0 = _; omega) h

/-! The loads whose value is dropped. -/

theorem any_q {r : Rect S512x1536} {hl} {k : (r.shape.Idx → Elt F .bf16) → Prog (TpuEff nD τ sig (Elt F) Λ₀ .tc) α}
    (h : ∀ v, iprop(Me A c sh b q o n0 n1 u ∗ R) ⊢ Wp c (k v) Q) :
    iprop(Me A c sh b q o n0 n1 u ∗ R) ⊢ Wp (F := F) c (.op (.load qM r.toLoadRect hl) k) Q :=
  load_any (.left lens_q) (fun _ => Finset.mem_univ _) h
theorem any_o {r : Rect S512x512} {hl} {k : (r.shape.Idx → Elt F .bf16) → Prog (TpuEff nD τ sig (Elt F) Λ₀ .tc) α}
    (h : ∀ v, iprop(Me A c sh b q o n0 n1 u ∗ R) ⊢ Wp c (k v) Q) :
    iprop(Me A c sh b q o n0 n1 u ∗ R) ⊢ Wp (F := F) c (.op (.load oM r.toLoadRect hl) k) Q :=
  load_any (.left lens_o) (fun _ => Finset.mem_univ _) h
theorem any_a {r : Rect S2x512x128} {hl} {k : (r.shape.Idx → Elt F .f32) → Prog (TpuEff nD τ sig (Elt F) Λ₀ .tc) α}
    (h : ∀ v, iprop(Me A c sh b q o n0 n1 u ∗ R) ⊢ Wp c (k v) Q) :
    iprop(Me A c sh b q o n0 n1 u ∗ R) ⊢ Wp (F := F) c (.op (.load aM r.toLoadRect hl) k) Q :=
  load_any (.left lens_a) (fun _ => Finset.mem_univ _) h
theorem any_out {r : Rect S2x128x512} {hl} {k : (r.shape.Idx → Elt F .f32) → Prog (TpuEff nD τ sig (Elt F) Λ₀ .tc) α}
    (h : ∀ v, iprop(Me A c sh b q o n0 n1 u ∗ R) ⊢ Wp c (k v) Q) :
    iprop(Me A c sh b q o n0 n1 u ∗ R) ⊢ Wp (F := F) c (.op (.load gM5 r.toLoadRect hl) k) Q :=
  load_any (.left lens_out) (fun _ => Finset.mem_univ _) h
theorem any_own (i : Fin 2) {o4 : Fin 4 → ℕ} (ho : o4 = ![c.val, i.val, 0, 0])
    {hb} {hl} {k : Vec F S1x1x512x128 .bf16 → Prog (TpuEff nD τ sig (Elt F) Λ₀ .tc) α}
    (h : ∀ v, iprop(Me A c sh b q o n0 n1 u ∗ R) ⊢ Wp c (k v) Q) :
    iprop(Me A c sh b q o n0 n1 u ∗ R)
      ⊢ Wp (F := F) c (.op (.load xM (Rect.unit (s := S8x2x512x128) o4 S1x1x512x128.size hb).toLoadRect hl) k) Q :=
  load_any (.left lens_own) (fun j => mem_row8 ho j) h

/-! The stores. -/

/-- Batch `i` of the device's own slot. -/
theorem st_own (i : Fin 2) {o4 : Fin 4 → ℕ} (ho : o4 = ![c.val, i.val, 0, 0]) {w : Vec F S1x1x512x128 .bf16} (hw : w = xb A c i)
    {hb} {hx} {hm} {k : PUnit.{1} → Prog (TpuEff nD τ sig (Elt F) Λ₀ .tc) α}
    (h : iprop(Me A c fullShare (i.val + 1) q o n0 n1 u ∗ R) ⊢ Wp c (k ⟨⟩) Q) :
    iprop(Me A c fullShare i.val q o n0 n1 u ∗ R)
      ⊢ Wp (F := F) c (.op (.store xM (Rect.unit (s := S8x2x512x128) o4 S1x1x512x128.size hb) w Finset.univ hx hm) k) Q := by
  subst hw
  refine store_step (.left lens_own) (fun j => mem_row8 ho j) (fun f j => ?_) (fun j hj hP hne => ?_) h
  · rw [View.write_emb_of_mem _ _ (Finset.mem_univ j), access_emb, emb_row4 (m0 := 8) (m1 := 2) (m2 := 512) (m3 := 128) c i ho]
    show xb A c i j = xb A c i (ix4 0 0 (j 2) (j 3))
    congr 1
    rw [eq_ix4 (n0 := 1) (n1 := 1) (n2 := 512) (n3 := 128) j]
    have h0 : (j 0).val < 1 := (j 0).isLt
    have h1 : (j 1).val < 1 := (j 1).isLt
    congr 1 <;> (apply Fin.ext; show _ = 0; omega)
  · refine ⟨?_, rfl⟩
    by_contra hlt
    refine hne (ix4 (n0 := 1) (n1 := 1) (n2 := 512) (n3 := 128) 0 0 (j 2) (j 3)) ?_
    rw [access_emb, emb_row4 (m0 := 8) (m1 := 2) (m2 := 512) (m3 := 128) c i ho]
    have e0 : (j 0) = c := Fin.ext (mem_set8.mp hj)
    have e1 : (j 1) = i := Fin.ext (by
      have h1 : (j 1).val < i.val + 1 := hP
      have h2 : ¬ (j 1).val < i.val := hlt
      omega)
    rw [← e0, ← e1]
    exact (eq_ix4 (n0 := 8) (n1 := 2) (n2 := 512) (n3 := 128) j).symm

/-- A third of `wqkv`. -/
theorem st_q (p : ℕ) {o2 : Fin 2 → ℕ} (ho : o2 = ![0, p]) (hp : p + 512 ≤ 1536) {w : Vec F S512x512 .bf16}
    (hw : ∀ j : S512x512.Idx, w j = WQ A c (ix2 (j 0) ⟨p + (j 1).val, by have : (j 1).val < 512 := (j 1).isLt; omega⟩))
    {hb} {hx} {hm} {k : PUnit.{1} → Prog (TpuEff nD τ sig (Elt F) Λ₀ .tc) α}
    (h : iprop(Me A c sh b (p + 512) o n0 n1 u ∗ R) ⊢ Wp c (k ⟨⟩) Q) :
    iprop(Me A c sh b p o n0 n1 u ∗ R)
      ⊢ Wp (F := F) c (.op (.store qM (Rect.unit (s := S512x1536) o2 S512x512.size hb) w Finset.univ hx hm) k) Q := by
  refine store_step (.left lens_q) (fun j => Finset.mem_univ _) (fun f j => ?_) (fun j hj hP hne => ?_) h
  · rw [View.write_emb_of_mem _ _ (Finset.mem_univ j), access_emb]
    have hj : (j 1).val < 512 := (j 1).isLt
    rw [emb_col2 (m0 := 512) (m1 := 1536) (w := 512) p ho hb j (by omega)]
    exact hw j
  · refine ⟨?_, rfl⟩
    by_contra hlt
    have h1 : (j 1).val < p + 512 := hP
    have h2 : ¬ (j 1).val < p := hlt
    refine hne (ix2 (n0 := 512) (n1 := 512) (j 0) ⟨(j 1).val - p, by omega⟩) ?_
    rw [access_emb, emb_col2 (m0 := 512) (m1 := 1536) (w := 512) p ho hb _ (by show p + ((j 1).val - p) < 1536; omega)]
    refine Eq.trans ?_ (eq_ix2 (n0 := 512) (n1 := 1536) j).symm
    congr 1
    apply Fin.ext
    show p + ((j 1).val - p) = (j 1).val
    omega

/-- `wo`. -/
theorem st_o {o2 : Fin 2 → ℕ} (ho : o2 = ![0, 0]) {w : Vec F S512x512 .bf16} (hw : w = WO A c)
    {hb} {hx} {hm} {k : PUnit.{1} → Prog (TpuEff nD τ sig (Elt F) Λ₀ .tc) α}
    (h : iprop(Me A c sh b q 1 n0 n1 u ∗ R) ⊢ Wp c (k ⟨⟩) Q) :
    iprop(Me A c sh b q o n0 n1 u ∗ R)
      ⊢ Wp (F := F) c (.op (.store oM (Rect.unit (s := S512x512) o2 S512x512.size hb) w Finset.univ hx hm) k) Q := by
  subst hw
  refine store_step (.left lens_o) (fun j => Finset.mem_univ _) (fun f j => ?_) (fun j hj hP hne => ?_) h
  · rw [View.write_emb_of_mem _ _ (Finset.mem_univ j), access_emb, emb_all2 (m0 := 512) (m1 := 512) ho]; rfl
  · exact absurd (by rw [access_emb, emb_all2 (m0 := 512) (m1 := 512) ho]) (hne j)

/-- Batch `i` of the accumulator: its next contents. -/
theorem st_acc (i : Fin 2) (n n0' n1' : ℕ) (h0 : n0' = if i.val = 0 then n + 1 else n0) (h1 : n1' = if i.val = 0 then n1 else n + 1)
    {o3 : Fin 3 → ℕ} (ho : o3 = ![i.val, 0, 0]) {w : Vec F S1x512x128 .f32} (hw : w = ACC A c i n)
    {hb} {hx} {hm} {k : PUnit.{1} → Prog (TpuEff nD τ sig (Elt F) Λ₀ .tc) α}
    (h : iprop(Me A c sh b q o n0' n1' u ∗ R) ⊢ Wp c (k ⟨⟩) Q) :
    iprop(Me A c sh b q o n0 n1 u ∗ R)
      ⊢ Wp (F := F) c (.op (.store aM (Rect.unit (s := S2x512x128) o3 S1x512x128.size hb) w Finset.univ hx hm) k) Q := by
  subst hw
  refine store_step (.left lens_a) (fun j => Finset.mem_univ _) (fun f j => ?_) (fun j hj hP hne => ?_) h
  · rw [View.write_emb_of_mem _ _ (Finset.mem_univ j), access_emb, emb_row3 (m0 := 2) (m1 := 512) (m2 := 128) i ho]
    show ACC A c i n j = ACC A c i ((if i.val = 0 then n0' else n1') - 1) (ix3 0 (j 1) (j 2))
    have e : (if i.val = 0 then n0' else n1') = n + 1 := by
      by_cases hi : i.val = 0
      · rw [if_pos hi, h0, if_pos hi]
      · rw [if_neg hi, h1, if_neg hi]
    rw [e, Nat.add_sub_cancel]
    congr 1
    rw [eq_ix3 (n0 := 1) (n1 := 512) (n2 := 128) j]
    have h0 : (j 0).val < 1 := (j 0).isLt
    congr 1; apply Fin.ext; show _ = 0; omega
  · have hji : ¬ (j 0).val = i.val := by
      intro e
      refine hne (ix3 (n0 := 1) (n1 := 512) (n2 := 128) 0 (j 1) (j 2)) ?_
      rw [access_emb, emb_row3 (m0 := 2) (m1 := 512) (m2 := 128) i ho]
      have e0 : (j 0) = i := Fin.ext e
      rw [← e0]
      exact (eq_ix3 (n0 := 2) (n1 := 512) (n2 := 128) j).symm
    have hj0 : (j 0).val < 2 := (j 0).isLt
    have hi0 : i.val < 2 := i.isLt
    have e : (if (j 0).val = 0 then n0' else n1') = if (j 0).val = 0 then n0 else n1 := by
      by_cases hz : (j 0).val = 0
      · rw [if_pos hz, if_pos hz, h0, if_neg (by omega)]
      · rw [if_neg hz, if_neg hz, h1, if_pos (by omega)]
    have hP' : 0 < if (j 0).val = 0 then n0' else n1' := hP
    refine ⟨by rw [← e]; exact hP', ?_⟩
    show ACC A c (j 0) ((if (j 0).val = 0 then n0 else n1) - 1) _ = ACC A c (j 0) ((if (j 0).val = 0 then n0' else n1') - 1) _
    rw [e]

/-- Batch `i` of the result. -/
theorem st_out (i : Fin 2) {o3 : Fin 3 → ℕ} (ho : o3 = ![i.val, 0, 0]) {w : Vec F S1x128x512 .f32} (hw : w = k0_pay80 (ACC A c i 7))
    {hb} {hx} {hm} {k : PUnit.{1} → Prog (TpuEff nD τ sig (Elt F) Λ₀ .tc) α}
    (h : iprop(Me A c sh b q o n0 n1 (i.val + 1) ∗ R) ⊢ Wp c (k ⟨⟩) Q) :
    iprop(Me A c sh b q o n0 n1 i.val ∗ R)
      ⊢ Wp (F := F) c (.op (.store gM5 (Rect.unit (s := S2x128x512) o3 S1x128x512.size hb) w Finset.univ hx hm) k) Q := by
  subst hw
  refine store_step (.left lens_out) (fun j => Finset.mem_univ _) (fun f j => ?_) (fun j hj hP hne => ?_) h
  · rw [View.write_emb_of_mem _ _ (Finset.mem_univ j), access_emb, emb_row3 (m0 := 2) (m1 := 128) (m2 := 512) i ho]
    show k0_pay80 (ACC A c i 7) j = k0_pay80 (ACC A c i 7) (ix3 0 (j 1) (j 2))
    congr 1
    rw [eq_ix3 (n0 := 1) (n1 := 128) (n2 := 512) j]
    have h0 : (j 0).val < 1 := (j 0).isLt
    congr 1; apply Fin.ext; show _ = 0; omega
  · refine ⟨?_, rfl⟩
    by_contra hlt
    refine hne (ix3 (n0 := 1) (n1 := 128) (n2 := 512) 0 (j 1) (j 2)) ?_
    rw [access_emb, emb_row3 (m0 := 2) (m1 := 128) (m2 := 512) i ho]
    have e0 : (j 0) = i := Fin.ext (by
      have h1 : (j 0).val < i.val + 1 := hP
      have h2 : ¬ (j 0).val < i.val := hlt
      omega)
    rw [← e0]
    exact (eq_ix3 (n0 := 2) (n1 := 128) (n2 := 512) j).symm

end Memory

end Cert.KernelIdeal.Run
-- ==== Proof.KernelIdeal.Proto.lean ====
/-
# The steps of the two exchanges

What a device holds of each of the seven steps of each exchange, and what each operation on a semaphore makes of it: the
barrier's signals and its wait, the starts of the copies, and the waits for the copies that arrive and for those sent.
-/
module

public import proofs.«01_k».proof.Proof.KernelIdeal.State

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (A : Args F) (c : Dev nD)

/-! ## The states -/

/-- The cells' invariants, the levels, and what is still owed. -/
def Core (bn ag rs : ℕ) : sProp 𝕄 := iprop(records A ∗ levAts L lv ∗ ∃ W, owes (c : Thread nD τ) (Owe c bn ag rs) W)

/-- Step `k` of the barrier, `n` signals sent. -/
def B1m (n : ℕ) (k : Fin 7) : sProp 𝕄 :=
  if k.val < n then iprop(emp) else iprop(dutyTok ER (cell (up c k.val) .bar) 0 (rev k) ∗ handed (F := F) c (up c k.val))
def B1 (n : ℕ) : sProp 𝕄 :=
  iprop(bigSep Finset.univ (B1m (F := F) c n) ∗ cred (tallyAt (cell c .bar) () 7) ∗ atPos ER (cell c .bar) 0 ∅ 0)
/-- After the barrier: the slots the others have handed over. -/
def B2 : sProp 𝕄 := iprop(bigSep Finset.univ (fun j : Fin 7 => handed (F := F) (up c j.val) c) ∗ atPos ER (cell c .bar) 1 ∅ 0)

/-- Step `k` of the first exchange on the sender's side, `ag` copies started and `aw` known to be read. -/
def AGm (ag aw : ℕ) (k : Fin 7) : sProp 𝕄 :=
  if k.val < aw then iprop(xPts c c (shareTok fullShare 7 k) (XA A) ∗ atPos ER (cell c (.agS k)) 1 ∅ 0)
  else if k.val < ag then iprop(cred (tallyAt (cell c (.agS k)) () N) ∗ atPos ER (cell c (.agS k)) 0 ∅ 0)
  else iprop(xPts c c (shareTok fullShare 7 k) (XA A) ∗ (∃ f, xPts (up c k.val) c fullShare f)
    ∗ atPos ER (cell c (.agS k)) 0 ∅ 0 ∗ dutyTok ER (cell c (.agS k)) 0 0 ∗ dutyTok ER (cell (up c k.val) (.agR c)) 0 0)
/-- The same on the receiver's side, `rw` copies received. -/
def RVm (rw : ℕ) (k : Fin 7) : sProp 𝕄 :=
  if k.val < rw then iprop(pts fullShare c xM (set8 (dn c k.val)) (fun _ => True) (XA A) ∗ atPos ER (cell c (.agR (dn c k.val))) 1 ∅ 0)
  else iprop(cred (tallyAt (cell c (.agR (dn c k.val))) () N) ∗ atPos ER (cell c (.agR (dn c k.val))) 0 ∅ 0)
/-- Step `k` of the second exchange on the sender's side: `rs` copies started, `d` batches of the next one computed, `bw`
    copies known to be read. -/
def RSm (rs d bw : ℕ) (k : Fin 7) : sProp 𝕄 :=
  if k.val < bw then iprop(sPts c k (DS A c) ∗ atPos ER (cell c (.rsS k)) 1 ∅ 0)
  else if k.val < rs then iprop(cred (tallyAt (cell c (.rsS k)) () N) ∗ atPos ER (cell c (.rsS k)) 0 ∅ 0)
  else iprop(pts fullShare c sM (set7 k) (fun i : S7x2x512x128.Idx => k.val = rs ∧ (i 1).val < d) (DS A c) ∗ (∃ f, rPts (dn c k.val) c f)
    ∗ atPos ER (cell c (.rsS k)) 0 ∅ 0 ∗ dutyTok ER (cell c (.rsS k)) 0 0 ∗ dutyTok ER (cell (dn c k.val) (.rsR c)) 0 0)
/-- The same on the receiver's side, `cw` copies received. -/
def ACm (cw : ℕ) (k : Fin 7) : sProp 𝕄 :=
  if k.val < cw then iprop(pts fullShare c rM (set8 (up c k.val)) (fun _ => True) (DR A c) ∗ atPos ER (cell c (.rsR (up c k.val))) 1 ∅ 0)
  else iprop(cred (tallyAt (cell c (.rsR (up c k.val))) () N) ∗ atPos ER (cell c (.rsR (up c k.val))) 0 ∅ 0)
/-- What the exchanges leave aside: the device's own slot of `d_recv`, and the cells nothing arrives on. -/
def Aside : sProp 𝕄 :=
  iprop((∃ f, rPts (F := F) c c f) ∗ atPos ER (cell c (.agR c)) 0 ∅ 0 ∗ atPos ER (cell c (.rsR c)) 0 ∅ 0)

/-- Where the device stands. -/
def Pr (ag rs rw d aw bw cw : ℕ) : sProp 𝕄 :=
  iprop(Core A c 7 ag rs ∗ bigSep Finset.univ (AGm A c ag aw) ∗ bigSep Finset.univ (RVm A c rw) ∗ bigSep Finset.univ (RSm A c rs d bw)
    ∗ bigSep Finset.univ (ACm A c cw) ∗ atPos ER (cell c .bar) 1 ∅ 0 ∗ Aside (F := F) c)

/-! ## The operations on cells -/

section Rules

variable {A c}
variable {α : Type} {Q : α → sProp (MT nD τ sig Unit (Elt F) ℕ UU ℕ)} {M R : sProp (MT nD τ sig Unit (Elt F) ℕ UU ℕ)}

/-- A signal to the barrier of device `d`. -/
theorem wp_sig (d : Dev nD) (j : Fin 7) {κ : ℕ} {O₀ O : CellTallies nD τ sig Unit} (hO : O₀ = O + tallyAt (cell d .bar) () 1) {W : Waits sig Unit}
    {k : PUnit.{1} → Prog (TpuEff nD τ sig (Elt F) Λ₀ .tc) α} :
    iprop(cellInv ER (Rd A) κ (cell d .bar) ∗ owes (c : Thread nD τ) O₀ W ∗ dutyTok ER (cell d .bar) 0 j ∗ handed (F := F) (up d j.val) d
        ∗ reached ER (cell d .bar) 0)
      ⊢ iprop((owes (c : Thread nD τ) O W -∗ Wp c (k ⟨⟩) Q) -∗ Wp c (.op (.semSignal (d : Thread nD τ) barS ((1 : ℕ) : ℤ)) k) Q) := by
  have e : (Rd A).payload ((d : Thread nD τ), .reg barS) 0 j = handed (up d j.val) d := payload_eq A d .bar j
  have h := Rounds.wp_signal (defs := defs₀ (F := F)) (Γ := []) 𝒱₀ ER (Rd A) (c : Thread nD τ) none (Q := Q) (dst := (d : Thread nD τ)) (sem := barS) (r := 0) (d := j) (κ := κ)
    (k := k) (W := W) (Es := Set.univ) (by rw [show (Rd A).duties ((d : Thread nD τ), .reg barS) 0 = duties d .bar from duties_eq A d .bar]; exact Finset.mem_univ _)
    (amount_eq A d .bar j) () O hO
  rw [e] at h
  exact h

/-- A wait on a cell for everything its one round brings. -/
theorem wp_recv (g : Cell) (hd : duties c g = {0}) (hg : amt g = N) {κ : ℕ} {sp sp' : Space} {s s' : Shape} {e e' : EltTy}
    {sm : DmaSem sig} (hs : SemLoc.dma sm = sem g) {src : Memref sig .tc sp' s' e'} {dst : Memref sig .tc sp s e} (hN : dst.view.dmaCredit = N)
    {h1 : src.view.WordExact} {h2 : dst.view.WordExact} {O : CellTallies nD τ sig Unit} {W : Waits sig Unit}
    {k : PUnit.{1} → Prog (TpuEff nD τ sig (Elt F) Λ₀ .tc) α} :
    iprop(cellInv ER (Rd A) κ (cell c g) ∗ cred (tallyAt (cell c g) () N) ∗ owes (c : Thread nD τ) O W
        ∗ MayWait (c : Thread nD τ) (sem g) () O ∗ atPos ER (cell c g) 0 ∅ 0)
      ⊢ iprop(((owes (c : Thread nD τ) O (insert (sem g, ()) W) ∗ atPos ER (cell c g) 1 ∅ 0 ∗ pay A c g 0) -∗ Wp c (k ⟨⟩) Q)
          -∗ Wp c (.op (.waitDma2 sm src dst h1 h2) k) Q) := by
  have h := Rounds.wp_wait_rest_token (defs := defs₀ (F := F)) (Γ := []) 𝒱₀ ER (Rd A) (c : Thread nD τ) none (Q := Q) (κ := κ) (w := .waitDma2 sm src dst h1 h2)
    (wpE_waitDma2_eq 𝒱₀ (c : Thread nD τ) none Set.univ) (Set.mem_univ _) (k := k) () (O := O) (W := W) (R := 0) (m := 0) (T := ∅)
    (by rw [hs, hN, Nat.zero_add]; exact (expect_one A c g hd hg).symm)
  rw [hs, hN] at h
  rw [rest_one A c g hd] at h
  iintro ⟨H1, H2, H3, H4, H5⟩ Hk
  iapply h $$ [H1 H2 H3 H4 H5]
  · isplitl [H1]; · iexact H1
    isplitl [H2]; · iexact H2
    isplitl [H3]; · iexact H3
    isplitl [H4]; · iexact H4
    iexact H5
  iintro ⟨HO, Hat, -, Hp⟩
  iapply Hk
  isplitl [HO]; · iexact HO
  isplitl [Hat]; · iexact Hat
  iexact Hp

/-- The start of a copy to device `n` with the two payments it makes. -/
theorem wp_copy (n : Dev nD) (gs gr : Cell) (hds : duties c gs = {0}) (hdr : duties n gr = {0}) (has : amt gs = N) (har : amt gr = N)
    {κ₁ κ₂ : ℕ} {src dst : Memref sig .tc .vmem S2x512x128 .bf16} {ss sr : DmaSem sig} (hss : SemLoc.dma ss = sem gs) (hsr : SemLoc.dma sr = sem gr)
    (hN : dst.view.amount (SemLoc.dma sr) = N)
    {hsc} {hsrc : src.view.WordExact} {hdst : dst.view.WordExact}
    {hsem : DmaTarget.Typed .vmem (.dma sr) (.remote (Dev.tc n : Thread nD τ) dst (.dma ss) hsc)}
    {q : PosShare TreeShare} {fs : Buf (Elt F) (src.view.loc (c : Thread nD τ))} {fd : Buf (Elt F) (dst.view.loc (n : Thread nD τ))}
    {O₀ O : CellTallies nD τ sig Unit} (hO : O₀ = O + tallyAt (cell n gr) () N) {W : Waits sig Unit}
    (hp1 : (src.view.loc (c : Thread nD τ) ↦[src.view.set]{q} fs) ⊢ pay A c gs 0)
    (hp2 : (dst.view.loc (n : Thread nD τ) ↦[dst.view.set]{fullShare} (dst.view.write (Elt F) fd (src.view.read (Elt F) fs) Finset.univ)) ⊢ pay A n gr 0)
    {k : PUnit.{1} → Prog (TpuEff nD τ sig (Elt F) Λ₀ .tc) α} :
    iprop(cellInv ER (Rd A) κ₁ (cell c gs) ∗ cellInv ER (Rd A) κ₂ (cell n gr)
        ∗ (src.view.loc (c : Thread nD τ) ↦[src.view.set]{q} fs) ∗ (dst.view.loc (n : Thread nD τ) ↦[dst.view.set]{fullShare} fd)
        ∗ owes (c : Thread nD τ) O₀ W ∗ dutyTok ER (cell c gs) 0 0 ∗ reached ER (cell c gs) 0 ∗ dutyTok ER (cell n gr) 0 0 ∗ reached ER (cell n gr) 0)
      ⊢ iprop(((cred (tallyAt (cell c gs) () N) ∗ owes (c : Thread nD τ) O W) -∗ Wp c (k ⟨⟩) Q)
          -∗ Wp c (.op (.enqueueDma src (.remote (Dev.tc n : Thread nD τ) dst (.dma ss) hsc) (.dma sr) hsrc hdst hsem) k) Q) := by
  have h := Rounds.wp_send_pointsTo (defs := defs₀ (F := F)) (Γ := []) 𝒱₀ ER (Rd A) (c : Thread nD τ) none (Q := Q) (κ₁ := κ₁) (κ₂ := κ₂) (c' := (Dev.tc n : Thread nD τ))
    (src := src) (dst := dst) (hsc := hsc) (sS := .dma ss) (sem := .dma sr) (hsrc := hsrc) (hdst := hdst) (hsem := hsem) (k := k) (q := q) (fs := fs)
    (r₁ := 0) (r₂ := 0) (d₁ := 0) (d₂ := 0) (fd := fd) (Es := Set.univ)
    (by rw [hss]; exact (show (0 : Fin 7) ∈ (Rd A).duties (cell c gs) 0 by rw [duties_eq, hds]; exact Finset.mem_singleton_self _))
    (by rw [hsr]; exact (show (0 : Fin 7) ∈ (Rd A).duties (cell n gr) 0 by rw [duties_eq, hdr]; exact Finset.mem_singleton_self _))
    () () N hN
    (by rw [hss]; exact (amount_eq A c gs 0).trans has) (by rw [hsr]; exact (amount_eq A n gr 0).trans har)
    (O₀ := O₀) O (by rw [hsr]; exact hO) (W := W)
    (by rw [hss]; exact (hp1.trans (BIBase.Entails.of_eq (payload_eq A c gs 0).symm)))
    (by rw [hsr]; exact (hp2.trans (BIBase.Entails.of_eq (payload_eq A n gr 0).symm)))
  rw [show cell c gs = ((c : Thread nD τ), SemLoc.dma ss) by rw [hss], show cell n gr = ((n : Thread nD τ), SemLoc.dma sr) by rw [hsr]]
  exact h

end Rules

end Cert.KernelIdeal.Run
-- ==== Proof.KernelIdeal.Moves.lean ====
/-
# What each operation of the exchanges makes of the state
-/
module

public import proofs.«01_k».proof.Proof.KernelIdeal.Proto

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable {A : Args F} {c : Dev nD}

/-! ## One step of a family -/

theorem fam_lens {f g : Fin 7 → sProp (MT nD τ sig Unit (Elt F) ℕ UU ℕ)} {X Y : sProp (MT nD τ sig Unit (Elt F) ℕ UU ℕ)} (k : Fin 7)
    (hf : f k = X) (hg : g k = Y) (h : ∀ j : Fin 7, j.val ≠ k.val → f j = g j) : Lens (bigSep Finset.univ f) X Y (bigSep Finset.univ g) := by
  subst hf hg; exact fam_at f g k fun j hj => h j fun e => hj (Fin.ext e)

theorem B1_lens (k : Fin 7) : Lens (bigSep Finset.univ (B1m (F := F) c k.val))
    iprop(dutyTok ER (cell (up c k.val) .bar) 0 (rev k) ∗ handed (F := F) c (up c k.val)) iprop(emp)
    (bigSep Finset.univ (B1m (F := F) c (k.val + 1))) :=
  fam_lens k (if_neg (lt_irrefl _)) (if_pos (Nat.lt_succ_self _)) fun j hj => by
    have e : (j.val < k.val + 1) = (j.val < k.val) := propext (by omega)
    unfold B1m; simp only [e]

theorem AG_start_lens (k : Fin 7) : Lens (bigSep Finset.univ (AGm A c k.val 0))
    iprop(xPts c c (shareTok fullShare 7 k) (XA A) ∗ (∃ f, xPts (up c k.val) c fullShare f)
      ∗ atPos ER (cell c (.agS k)) 0 ∅ 0 ∗ dutyTok ER (cell c (.agS k)) 0 0 ∗ dutyTok ER (cell (up c k.val) (.agR c)) 0 0)
    iprop(cred (tallyAt (cell c (.agS k)) () N) ∗ atPos ER (cell c (.agS k)) 0 ∅ 0)
    (bigSep Finset.univ (AGm A c (k.val + 1) 0)) :=
  fam_lens k (by unfold AGm; rw [if_neg (Nat.not_lt_zero _), if_neg (lt_irrefl _)])
    (by unfold AGm; rw [if_neg (Nat.not_lt_zero _), if_pos (Nat.lt_succ_self _)]) fun j hj => by
    have e : (j.val < k.val + 1) = (j.val < k.val) := propext (by omega)
    unfold AGm; simp only [e]

theorem AG_done_lens (k : Fin 7) : Lens (bigSep Finset.univ (AGm A c 7 k.val))
    iprop(cred (tallyAt (cell c (.agS k)) () N) ∗ atPos ER (cell c (.agS k)) 0 ∅ 0)
    iprop(xPts c c (shareTok fullShare 7 k) (XA A) ∗ atPos ER (cell c (.agS k)) 1 ∅ 0)
    (bigSep Finset.univ (AGm A c 7 (k.val + 1))) :=
  fam_lens k (by unfold AGm; rw [if_neg (lt_irrefl _), if_pos k.isLt])
    (by unfold AGm; rw [if_pos (Nat.lt_succ_self _)]) fun j hj => by
    have e : (j.val < k.val + 1) = (j.val < k.val) := propext (by omega)
    unfold AGm; simp only [e]

theorem RV_lens (k : Fin 7) : Lens (bigSep Finset.univ (RVm A c k.val))
    iprop(cred (tallyAt (cell c (.agR (dn c k.val))) () N) ∗ atPos ER (cell c (.agR (dn c k.val))) 0 ∅ 0)
    iprop(pts fullShare c xM (set8 (dn c k.val)) (fun _ => True) (XA A) ∗ atPos ER (cell c (.agR (dn c k.val))) 1 ∅ 0)
    (bigSep Finset.univ (RVm A c (k.val + 1))) :=
  fam_lens k (by unfold RVm; rw [if_neg (lt_irrefl _)])
    (by unfold RVm; rw [if_pos (Nat.lt_succ_self _)]) fun j hj => by
    have e : (j.val < k.val + 1) = (j.val < k.val) := propext (by omega)
    unfold RVm; simp only [e]

theorem RV_have {rw : ℕ} (k : Fin 7) (hk : k.val < rw) : Lens (bigSep Finset.univ (RVm A c rw))
    (pts fullShare c xM (set8 (dn c k.val)) (fun _ => True) (XA A)) (pts fullShare c xM (set8 (dn c k.val)) (fun _ => True) (XA A))
    (bigSep Finset.univ (RVm A c rw)) :=
  (fam_lens k (by unfold RVm; rw [if_pos hk]) (by unfold RVm; rw [if_pos hk]) fun j hj => rfl).comp (.left .refl)

theorem RS_store_lens {d : ℕ} (k : Fin 7) : Lens (bigSep Finset.univ (RSm A c k.val d 0))
    (pts fullShare c sM (set7 k) (fun i : S7x2x512x128.Idx => k.val = k.val ∧ (i 1).val < d) (DS A c))
    (pts fullShare c sM (set7 k) (fun i : S7x2x512x128.Idx => k.val = k.val ∧ (i 1).val < d + 1) (DS A c))
    (bigSep Finset.univ (RSm A c k.val (d + 1) 0)) :=
  (fam_lens k (by unfold RSm; rw [if_neg (Nat.not_lt_zero _), if_neg (lt_irrefl _)])
    (by unfold RSm; rw [if_neg (Nat.not_lt_zero _), if_neg (lt_irrefl _)]) fun j hj => by
    unfold RSm
    have e : (fun i : S7x2x512x128.Idx => j.val = k.val ∧ (i 1).val < d + 1) = fun i : S7x2x512x128.Idx => j.val = k.val ∧ (i 1).val < d :=
      funext fun i => propext ⟨fun h => absurd h.1 hj, fun h => absurd h.1 hj⟩
    simp only [e]).comp (.left .refl)

theorem RS_any_lens {d : ℕ} (k : Fin 7) : Lens (bigSep Finset.univ (RSm A c k.val d 0))
    (pts fullShare c sM (set7 k) (fun i : S7x2x512x128.Idx => k.val = k.val ∧ (i 1).val < d) (DS A c))
    (pts fullShare c sM (set7 k) (fun i : S7x2x512x128.Idx => k.val = k.val ∧ (i 1).val < d) (DS A c))
    (bigSep Finset.univ (RSm A c k.val d 0)) :=
  (fam_lens k (by unfold RSm; rw [if_neg (Nat.not_lt_zero _), if_neg (lt_irrefl _)])
    (by unfold RSm; rw [if_neg (Nat.not_lt_zero _), if_neg (lt_irrefl _)]) fun j hj => rfl).comp (.left .refl)

theorem RS_start_lens (k : Fin 7) : Lens (bigSep Finset.univ (RSm A c k.val 2 0))
    iprop(pts fullShare c sM (set7 k) (fun i : S7x2x512x128.Idx => k.val = k.val ∧ (i 1).val < 2) (DS A c) ∗ (∃ f, rPts (dn c k.val) c f)
      ∗ atPos ER (cell c (.rsS k)) 0 ∅ 0 ∗ dutyTok ER (cell c (.rsS k)) 0 0 ∗ dutyTok ER (cell (dn c k.val) (.rsR c)) 0 0)
    iprop(cred (tallyAt (cell c (.rsS k)) () N) ∗ atPos ER (cell c (.rsS k)) 0 ∅ 0)
    (bigSep Finset.univ (RSm A c (k.val + 1) 0 0)) :=
  fam_lens k (by unfold RSm; rw [if_neg (Nat.not_lt_zero _), if_neg (lt_irrefl _)])
    (by unfold RSm; rw [if_neg (Nat.not_lt_zero _), if_pos (Nat.lt_succ_self _)]) fun j hj => by
    have e : (j.val < k.val + 1) = (j.val < k.val) := propext (by omega)
    have e' : (fun i : S7x2x512x128.Idx => j.val = k.val ∧ (i 1).val < 2) = fun i : S7x2x512x128.Idx => j.val = k.val + 1 ∧ (i 1).val < 0 :=
      funext fun i => propext ⟨fun h => absurd h.1 hj, fun h => absurd h.2 (Nat.not_lt_zero _)⟩
    unfold RSm; simp only [e, e']

theorem RS_done_lens (k : Fin 7) : Lens (bigSep Finset.univ (RSm A c 7 0 k.val))
    iprop(cred (tallyAt (cell c (.rsS k)) () N) ∗ atPos ER (cell c (.rsS k)) 0 ∅ 0)
    iprop(sPts c k (DS A c) ∗ atPos ER (cell c (.rsS k)) 1 ∅ 0)
    (bigSep Finset.univ (RSm A c 7 0 (k.val + 1))) :=
  fam_lens k (by unfold RSm; rw [if_neg (lt_irrefl _), if_pos k.isLt])
    (by unfold RSm; rw [if_pos (Nat.lt_succ_self _)]) fun j hj => by
    have e : (j.val < k.val + 1) = (j.val < k.val) := propext (by omega)
    unfold RSm; simp only [e]

theorem AC_lens (k : Fin 7) : Lens (bigSep Finset.univ (ACm A c k.val))
    iprop(cred (tallyAt (cell c (.rsR (up c k.val))) () N) ∗ atPos ER (cell c (.rsR (up c k.val))) 0 ∅ 0)
    iprop(pts fullShare c rM (set8 (up c k.val)) (fun _ => True) (DR A c) ∗ atPos ER (cell c (.rsR (up c k.val))) 1 ∅ 0)
    (bigSep Finset.univ (ACm A c (k.val + 1))) :=
  fam_lens k (by unfold ACm; rw [if_neg (lt_irrefl _)])
    (by unfold ACm; rw [if_pos (Nat.lt_succ_self _)]) fun j hj => by
    have e : (j.val < k.val + 1) = (j.val < k.val) := propext (by omega)
    unfold ACm; simp only [e]

theorem AC_have {cw : ℕ} (k : Fin 7) (hk : k.val < cw) : Lens (bigSep Finset.univ (ACm A c cw))
    (pts fullShare c rM (set8 (up c k.val)) (fun _ => True) (DR A c)) (pts fullShare c rM (set8 (up c k.val)) (fun _ => True) (DR A c))
    (bigSep Finset.univ (ACm A c cw)) :=
  (fam_lens k (by unfold ACm; rw [if_pos hk]) (by unfold ACm; rw [if_pos hk]) fun j hj => rfl).comp (.left .refl)

/-! ## Payloads in their two forms -/

theorem got_agR {s : Dev nD} : pay A c (.agR s) 0 ⊢ pts fullShare c xM (set8 s) (fun _ => True) (XA A) :=
  pts_intro (m := xM) (f := XA A) fun _ _ _ => rfl

theorem got_rsR {s : Dev nD} : pay A c (.rsR s) 0 ⊢ pts fullShare c rM (set8 s) (fun _ => True) (DR A c) :=
  pts_intro (m := rM) (f := DR A c) fun _ _ _ => rfl

theorem got_agS {k : Fin 7} : pay A c (.agS k) 0 ⊢ xPts c c (shareTok fullShare 7 k) (XA A) := BIBase.Entails.of_eq rfl

theorem got_rsS {k : Fin 7} : pay A c (.rsS k) 0 ⊢ sPts c k (DS A c) := BIBase.Entails.of_eq rfl

theorem give_x (t s : Dev nD) (hb) {q} {f : Vec F S8x2x512x128 .bf16} :
    xPts t s q f ⊢ ((slot8 xM ![s.val, 0, 0, 0] hb).view.loc (t : Thread nD τ) ↦[(slot8 xM ![s.val, 0, 0, 0] hb).view.set]{q} f) := by
  rw [slot_x_set s hb]; exact BIBase.Entails.of_eq rfl

theorem give_r (t s : Dev nD) (hb) {f : Vec F S8x2x512x128 .bf16} :
    rPts t s f ⊢ ((slot8 rM ![s.val, 0, 0, 0] hb).view.loc (t : Thread nD τ) ↦[(slot8 rM ![s.val, 0, 0, 0] hb).view.set]{fullShare} f) := by
  rw [slot_r_set s hb]; exact BIBase.Entails.of_eq rfl

/-! ## The operations -/

section Rules

variable {α : Type} {Q : α → sProp (MT nD τ sig Unit (Elt F) ℕ UU ℕ)} {M R : sProp (MT nD τ sig Unit (Elt F) ℕ UU ℕ)}
variable {ag rs rw d aw bw cw : ℕ}

theorem signal (k : ℕ) (hk : k < 7) {n : Dev nD} (hn : n = up c k) {z : ℤ} (hz : z = ((1 : ℕ) : ℤ))
    {kk : PUnit.{1} → Prog (TpuEff nD τ sig (Elt F) Λ₀ .tc) α}
    (h : iprop(M ∗ Core A c (k + 1) 0 0 ∗ B1 (F := F) c (k + 1) ∗ R) ⊢ Wp c (kk ⟨⟩) Q) :
    iprop(M ∗ Core A c k 0 0 ∗ B1 (F := F) c k ∗ R) ⊢ Wp c (.op (.semSignal (n : Thread nD τ) barS z) kk) Q := by
  subst hn hz
  have l := B1_lens (F := F) (c := c) ⟨k, hk⟩
  unfold Lens at l
  unfold Core B1
  iintro ⟨HM, ⟨#Hrec, Hlev, %W, HO⟩, ⟨HB, Hcr, Hat⟩, HR⟩
  ihave H := l $$ HB
  icases H with ⟨⟨Ht, Hh⟩, Hback⟩
  ihave Hi := (records_inv A (up c k) .bar) $$ Hrec
  unfold inv
  icases Hi with ⟨⟨%κ, #Hi⟩, #Hr⟩
  iapply (wp_sig (A := A) (κ := κ) (up c k) (rev ⟨k, hk⟩) (O := Owe c (k + 1) 0 0) (Owe_bar c ⟨k, hk⟩ 0 0)) $$ [HO Ht Hh]
  · isplitr; · iexact Hi
    isplitl [HO]; · iexact HO
    isplitl [Ht]; · iexact Ht
    isplitl [Hh]
    · have e : handed (F := F) (up (up c k) (rev ⟨k, hk⟩).val) (up c k) = handed c (up c k) := by rw [up_rev c ⟨k, hk⟩]
      iapply (BIBase.Entails.of_eq e.symm)
      iexact Hh
    iexact Hr
  iintro HO
  iapply h
  unfold Core B1
  isplitl [HM]; · iexact HM
  isplitl [Hlev HO]
  · isplitr; · iexact Hrec
    isplitl [Hlev]; · iexact Hlev
    iexists W; iexact HO
  isplitl [Hback Hcr Hat]
  · isplitl [Hback]; · iapply Hback; iempintro
    isplitl [Hcr]; · iexact Hcr
    iexact Hat
  iexact HR

theorem barrier {z : ℤ} (hz : z = ((7 : ℕ) : ℤ)) {kk : PUnit.{1} → Prog (TpuEff nD τ sig (Elt F) Λ₀ .tc) α}
    (h : iprop(M ∗ Core A c 7 0 0 ∗ B2 (F := F) c ∗ R) ⊢ Wp c (kk ⟨⟩) Q) :
    iprop(M ∗ Core A c 7 0 0 ∗ B1 (F := F) c 7 ∗ R) ⊢ Wp c (.op (.semWait barS z) kk) Q := by
  subst hz
  have hw := fun κ W => Rounds.wp_wait_rest_token (defs := defs₀ (F := F)) (Γ := []) 𝒱₀ ER (Rd A) (c : Thread nD τ) none (Q := Q) (κ := κ)
    (w := .semWait barS ((7 : ℕ) : ℤ)) (wpE_semWait_eq 𝒱₀ (c : Thread nD τ) none Set.univ) (Set.mem_univ _) (k := kk) () (O := Owe c 7 0 0) (W := W)
    (R := 0) (m := 0) (T := ∅) (by rw [Nat.zero_add]; exact (expect_bar A c).symm)
  unfold Core B1
  iintro ⟨HM, ⟨#Hrec, #Hlev, %W, HO⟩, ⟨HB, Hcr, Hat⟩, HR⟩
  ihave Hi := (records_inv A c .bar) $$ Hrec
  unfold inv
  icases Hi with ⟨⟨%κ, #Hi⟩, #Hr⟩
  iapply (hw κ W) $$ [HO Hcr Hat]
  · isplitr; · iexact Hi
    isplitl [Hcr]; · iexact Hcr
    isplitl [HO]; · iexact HO
    isplitr
    · iapply (mayWait c (sem .bar) 7 0 0 1 (fun u => le_of_eq (lv_cell c .bar u)) (fun h => absurd h (lt_irrefl _)) (fun _ => by decide) (fun _ => by decide))
      iexact Hlev
    iexact Hat
  iintro ⟨HO, Hat, -, Hp⟩
  ihave Hp := (show iprop([∗ (Rd A).duties ((c : Thread nD τ), SemLoc.reg barS) 0 \ ∅] (d : Fin 7), (Rd A).payload ((c : Thread nD τ), SemLoc.reg barS) 0 d) ⊢ _ from BIBase.Entails.of_eq (rest_bar A c)) $$ Hp
  iapply h
  unfold Core B2
  isplitl [HM]; · iexact HM
  isplitl [HO]
  · isplitr; · iexact Hrec
    isplitr; · iexact Hlev
    iexists _; iexact HO
  isplitl [Hp Hat]
  · isplitl [Hp]; · iexact Hp
    iexact Hat
  iexact HR

/-- The wait for the copy of step `k` that arrives in the first exchange. -/
theorem wait_agR (k : ℕ) (hk : k < 7) {o1 : Fin 1 → ℕ} (ho : o1 = ![(dn c k).val]) {hb}
    {sp sp' : Space} {s s' : Shape} {e e' : EltTy} {src : Memref sig .tc sp' s' e'} {dst : Memref sig .tc sp s e} (hN : dst.view.dmaCredit = N)
    {h1 : src.view.WordExact} {h2 : dst.view.WordExact} {kk : PUnit.{1} → Prog (TpuEff nD τ sig (Elt F) Λ₀ .tc) α}
    (h : iprop(M ∗ Pr A c 7 rs (k + 1) d aw bw cw) ⊢ Wp c (kk ⟨⟩) Q) :
    iprop(M ∗ Pr A c 7 rs k d aw bw cw)
      ⊢ Wp c (.op (.waitDma2 ((cc0_scratch7.slice (Rect.unit (s := S8) o1 S1.size hb)).squeeze S_ squeezes_S1_S_).sem src dst h1 h2) kk) Q := by
  subst ho
  have l := RV_lens (A := A) (c := c) ⟨k, hk⟩
  unfold Lens at l
  unfold Pr Core
  iintro ⟨HM, ⟨#Hrec, #Hlev, %W, HO⟩, HAG, HRV, HR⟩
  ihave H := l $$ HRV
  icases H with ⟨⟨Hcr, Hat⟩, Hback⟩
  ihave Hi := (records_inv A c (.agR (dn c k))) $$ Hrec
  unfold inv
  icases Hi with ⟨⟨%κ, #Hi⟩, #Hr⟩
  iapply (wp_recv (A := A) (κ := κ) (.agR (dn c k)) (duties_agR (dn_ne c ⟨k, hk⟩)) rfl (agR_sem (dn c k) hb) hN) $$ [HO Hcr Hat]
  · isplitr; · iexact Hi
    isplitl [Hcr]; · iexact Hcr
    isplitl [HO]; · iexact HO
    isplitr
    · iapply (mayWait c (sem (.agR (dn c k))) 7 7 rs 2 (fun u => le_of_eq (lv_cell c (.agR (dn c k)) u)) (fun h => absurd h (lt_irrefl _)) (fun h => absurd h (lt_irrefl _)) (fun _ => by decide))
      iexact Hlev
    iexact Hat
  iintro ⟨HO, Hat, Hp⟩
  iapply h
  unfold Pr Core
  isplitl [HM]; · iexact HM
  isplitl [HO]
  · isplitr; · iexact Hrec
    isplitr; · iexact Hlev
    iexists _; iexact HO
  isplitl [HAG]; · iexact HAG
  isplitl [Hback Hp Hat]
  · iapply Hback
    isplitl [Hp]
    · iapply got_agR; iexact Hp
    iexact Hat
  iexact HR

/-- The wait for the copy of step `k` that arrives in the second exchange. -/
theorem wait_rsR (k : ℕ) (hk : k < 7) {o1 : Fin 1 → ℕ} (ho : o1 = ![(up c k).val]) {hb}
    {sp sp' : Space} {s s' : Shape} {e e' : EltTy} {src : Memref sig .tc sp' s' e'} {dst : Memref sig .tc sp s e} (hN : dst.view.dmaCredit = N)
    {h1 : src.view.WordExact} {h2 : dst.view.WordExact} {kk : PUnit.{1} → Prog (TpuEff nD τ sig (Elt F) Λ₀ .tc) α}
    (h : iprop(M ∗ Pr A c 7 7 rw d aw bw (k + 1)) ⊢ Wp c (kk ⟨⟩) Q) :
    iprop(M ∗ Pr A c 7 7 rw d aw bw k)
      ⊢ Wp c (.op (.waitDma2 ((cc0_scratch9.slice (Rect.unit (s := S8) o1 S1.size hb)).squeeze S_ squeezes_S1_S_).sem src dst h1 h2) kk) Q := by
  subst ho
  have l := AC_lens (A := A) (c := c) ⟨k, hk⟩
  unfold Lens at l
  unfold Pr Core
  iintro ⟨HM, ⟨#Hrec, #Hlev, %W, HO⟩, HAG, HRV, HRS, HAC, HR⟩
  ihave H := l $$ HAC
  icases H with ⟨⟨Hcr, Hat⟩, Hback⟩
  ihave Hi := (records_inv A c (.rsR (up c k))) $$ Hrec
  unfold inv
  icases Hi with ⟨⟨%κ, #Hi⟩, #Hr⟩
  iapply (wp_recv (A := A) (κ := κ) (.rsR (up c k)) (duties_rsR (up_ne c ⟨k, hk⟩)) rfl (rsR_sem (up c k) hb) hN) $$ [HO Hcr Hat]
  · isplitr; · iexact Hi
    isplitl [Hcr]; · iexact Hcr
    isplitl [HO]; · iexact HO
    isplitr
    · iapply (mayWait c (sem (.rsR (up c k))) 7 7 7 3 (fun u => le_of_eq (lv_cell c (.rsR (up c k)) u)) (fun h => absurd h (lt_irrefl _)) (fun h => absurd h (lt_irrefl _)) (fun h => absurd h (lt_irrefl _)))
      iexact Hlev
    iexact Hat
  iintro ⟨HO, Hat, Hp⟩
  iapply h
  unfold Pr Core
  isplitl [HM]; · iexact HM
  isplitl [HO]
  · isplitr; · iexact Hrec
    isplitr; · iexact Hlev
    iexists _; iexact HO
  isplitl [HAG]; · iexact HAG
  isplitl [HRV]; · iexact HRV
  isplitl [HRS]; · iexact HRS
  isplitl [Hback Hp Hat]
  · iapply Hback
    isplitl [Hp]
    · iapply got_rsR; iexact Hp
    iexact Hat
  iexact HR

/-- The wait for the copy of step `k` sent in the first exchange. -/
theorem wait_agS (k : ℕ) (hk : k < 7) {o1 : Fin 1 → ℕ} (ho : o1 = ![k]) {hb}
    {sp sp' : Space} {s s' : Shape} {e e' : EltTy} {src : Memref sig .tc sp' s' e'} {dst : Memref sig .tc sp s e} (hN : dst.view.dmaCredit = N)
    {h1 : src.view.WordExact} {h2 : dst.view.WordExact} {kk : PUnit.{1} → Prog (TpuEff nD τ sig (Elt F) Λ₀ .tc) α}
    (h : iprop(M ∗ Pr A c 7 7 rw d (k + 1) bw cw) ⊢ Wp c (kk ⟨⟩) Q) :
    iprop(M ∗ Pr A c 7 7 rw d k bw cw)
      ⊢ Wp c (.op (.waitDma2 ((cc0_scratch6.slice (Rect.unit (s := S7) o1 S1.size hb)).squeeze S_ squeezes_S1_S_).sem src dst h1 h2) kk) Q := by
  subst ho
  have l := AG_done_lens (A := A) (c := c) ⟨k, hk⟩
  unfold Lens at l
  unfold Pr Core
  iintro ⟨HM, ⟨#Hrec, #Hlev, %W, HO⟩, HAG, HR⟩
  ihave H := l $$ HAG
  icases H with ⟨⟨Hcr, Hat⟩, Hback⟩
  ihave Hi := (records_inv A c (.agS ⟨k, hk⟩)) $$ Hrec
  unfold inv
  icases Hi with ⟨⟨%κ, #Hi⟩, #Hr⟩
  iapply (wp_recv (A := A) (κ := κ) (.agS ⟨k, hk⟩) rfl rfl (agS_sem ⟨k, hk⟩ hb) hN) $$ [HO Hcr Hat]
  · isplitr; · iexact Hi
    isplitl [Hcr]; · iexact Hcr
    isplitl [HO]; · iexact HO
    isplitr
    · iapply (mayWait c (sem (.agS ⟨k, hk⟩)) 7 7 7 0 (fun u => le_of_eq (lv_cell c (.agS ⟨k, hk⟩) u)) (fun h => absurd h (lt_irrefl _)) (fun h => absurd h (lt_irrefl _)) (fun h => absurd h (lt_irrefl _)))
      iexact Hlev
    iexact Hat
  iintro ⟨HO, Hat, Hp⟩
  iapply h
  unfold Pr Core
  isplitl [HM]; · iexact HM
  isplitl [HO]
  · isplitr; · iexact Hrec
    isplitr; · iexact Hlev
    iexists _; iexact HO
  isplitl [Hback Hp Hat]
  · iapply Hback
    isplitl [Hp]; · iapply got_agS; iexact Hp
    iexact Hat
  iexact HR

/-- The wait for the copy of step `k` sent in the second exchange. -/
theorem wait_rsS (k : ℕ) (hk : k < 7) {o1 : Fin 1 → ℕ} (ho : o1 = ![k]) {hb}
    {sp sp' : Space} {s s' : Shape} {e e' : EltTy} {src : Memref sig .tc sp' s' e'} {dst : Memref sig .tc sp s e} (hN : dst.view.dmaCredit = N)
    {h1 : src.view.WordExact} {h2 : dst.view.WordExact} {kk : PUnit.{1} → Prog (TpuEff nD τ sig (Elt F) Λ₀ .tc) α}
    (h : iprop(M ∗ Pr A c 7 7 rw 0 aw (k + 1) cw) ⊢ Wp c (kk ⟨⟩) Q) :
    iprop(M ∗ Pr A c 7 7 rw 0 aw k cw)
      ⊢ Wp c (.op (.waitDma2 ((cc0_scratch8.slice (Rect.unit (s := S7) o1 S1.size hb)).squeeze S_ squeezes_S1_S_).sem src dst h1 h2) kk) Q := by
  subst ho
  have l := RS_done_lens (A := A) (c := c) ⟨k, hk⟩
  unfold Lens at l
  unfold Pr Core
  iintro ⟨HM, ⟨#Hrec, #Hlev, %W, HO⟩, HAG, HRV, HRS, HR⟩
  ihave H := l $$ HRS
  icases H with ⟨⟨Hcr, Hat⟩, Hback⟩
  ihave Hi := (records_inv A c (.rsS ⟨k, hk⟩)) $$ Hrec
  unfold inv
  icases Hi with ⟨⟨%κ, #Hi⟩, #Hr⟩
  iapply (wp_recv (A := A) (κ := κ) (.rsS ⟨k, hk⟩) rfl rfl (rsS_sem ⟨k, hk⟩ hb) hN) $$ [HO Hcr Hat]
  · isplitr; · iexact Hi
    isplitl [Hcr]; · iexact Hcr
    isplitl [HO]; · iexact HO
    isplitr
    · iapply (mayWait c (sem (.rsS ⟨k, hk⟩)) 7 7 7 0 (fun u => le_of_eq (lv_cell c (.rsS ⟨k, hk⟩) u)) (fun h => absurd h (lt_irrefl _)) (fun h => absurd h (lt_irrefl _)) (fun h => absurd h (lt_irrefl _)))
      iexact Hlev
    iexact Hat
  iintro ⟨HO, Hat, Hp⟩
  iapply h
  unfold Pr Core
  isplitl [HM]; · iexact HM
  isplitl [HO]
  · isplitr; · iexact Hrec
    isplitr; · iexact Hlev
    iexists _; iexact HO
  isplitl [HAG]; · iexact HAG
  isplitl [HRV]; · iexact HRV
  isplitl [Hback Hp Hat]
  · iapply Hback
    isplitl [Hp]; · iapply got_rsS; iexact Hp
    iexact Hat
  iexact HR

/-- The start of the copy of step `k` of the first exchange. -/
theorem start_ag (k : ℕ) (hk : k < 7) {n : Dev nD} (hn : n = up c k) {o1 : Fin 1 → ℕ} (ho1 : o1 = ![k]) {hb1}
    {o2 : Fin 1 → ℕ} (ho2 : o2 = ![c.val]) {hb2} {o3 o4 : Fin 4 → ℕ} (ho3 : o3 = ![c.val, 0, 0, 0]) {hb3} (ho4 : o4 = ![c.val, 0, 0, 0]) {hb4}
    {hsc} {hsrc} {hdst} {hsem} {kk : PUnit.{1} → Prog (TpuEff nD τ sig (Elt F) Λ₀ .tc) α}
    (h : iprop(M ∗ Pr A c (k + 1) 0 rw d 0 bw cw) ⊢ Wp c (kk ⟨⟩) Q) :
    iprop(M ∗ Pr A c k 0 rw d 0 bw cw)
      ⊢ Wp c (.op (.enqueueDma (slot8 xM o3 hb3) (.remote (Dev.tc n : Thread nD τ) (slot8 xM o4 hb4)
          (.dma ((cc0_scratch6.slice (Rect.unit (s := S7) o1 S1.size hb1)).squeeze S_ squeezes_S1_S_).sem) hsc)
          (.dma ((cc0_scratch7.slice (Rect.unit (s := S8) o2 S1.size hb2)).squeeze S_ squeezes_S1_S_).sem) hsrc hdst hsem) kk) Q := by
  subst hn ho1 ho2 ho3 ho4
  have l := AG_start_lens (A := A) (c := c) ⟨k, hk⟩
  unfold Lens at l
  unfold Pr Core
  iintro ⟨HM, ⟨#Hrec, #Hlev, %W, HO⟩, HAG, HR⟩
  ihave H := l $$ HAG
  icases H with ⟨⟨Hs, ⟨%fd, Hd⟩, Hat, Ht1, Ht2⟩, Hback⟩
  ihave Hi := (records_inv A c (.agS ⟨k, hk⟩)) $$ Hrec
  ihave Hj := (records_inv A (up c k) (.agR c)) $$ Hrec
  unfold inv
  icases Hi with ⟨⟨%κ, #Hi⟩, #Hr⟩
  icases Hj with ⟨⟨%κ', #Hj⟩, #Hr'⟩
  iapply (wp_copy (A := A) (κ₁ := κ) (κ₂ := κ') (up c k) (.agS ⟨k, hk⟩) (.agR c) rfl (duties_agR (up_ne c ⟨k, hk⟩).symm) rfl rfl
    (src := slot8 xM ![c.val, 0, 0, 0] hb3) (dst := slot8 xM ![c.val, 0, 0, 0] hb4)
    (agS_sem ⟨k, hk⟩ hb1) (agR_sem c hb2) rfl (q := shareTok fullShare 7 ⟨k, hk⟩) (fs := XA A) (fd := fd) (Owe_ag c ⟨k, hk⟩ 0)
    (by rw [slot_x_set c hb3]; exact BIBase.Entails.of_eq rfl)
    (by
      rw [slot_x_set c hb4]
      refine BIBase.Entails.of_eq ?_
      exact pointsTo_congr (landed_x c hb4 hb3 fd (XA A)))) $$ [HO Hs Hd Ht1 Ht2]
  · isplitr; · iexact Hi
    isplitr; · iexact Hj
    isplitl [Hs]
    · iapply (give_x c c hb3); iexact Hs
    isplitl [Hd]
    · iapply (give_x (up c k) c hb4); iexact Hd
    isplitl [HO]; · iexact HO
    isplitl [Ht1]; · iexact Ht1
    isplitr; · iexact Hr
    isplitl [Ht2]; · iexact Ht2
    iexact Hr'
  iintro ⟨Hcr, HO⟩
  iapply h
  unfold Pr Core
  isplitl [HM]; · iexact HM
  isplitl [HO]
  · isplitr; · iexact Hrec
    isplitr; · iexact Hlev
    iexists _; iexact HO
  isplitl [Hback Hcr Hat]
  · iapply Hback
    isplitl [Hcr]; · iexact Hcr
    iexact Hat
  iexact HR

/-- What step `k` sends in the second exchange is what the other end expects from here. -/
theorem DS_DR (k : Fin 7) (b i j) : DS A c (ix4 k b i j) = DR A (dn c k.val) (ix4 c b i j) := rfl

/-- The start of the copy of step `k` of the second exchange. -/
theorem start_rs (k : ℕ) (hk : k < 7) {n : Dev nD} (hn : n = dn c k) {o1 : Fin 1 → ℕ} (ho1 : o1 = ![k]) {hb1}
    {o2 : Fin 1 → ℕ} (ho2 : o2 = ![c.val]) {hb2} {o3 o4 : Fin 4 → ℕ} (ho3 : o3 = ![k, 0, 0, 0]) {hb3} (ho4 : o4 = ![c.val, 0, 0, 0]) {hb4}
    {hsc} {hsrc} {hdst} {hsem} {kk : PUnit.{1} → Prog (TpuEff nD τ sig (Elt F) Λ₀ .tc) α}
    (h : iprop(M ∗ Pr A c 7 (k + 1) rw 0 aw 0 cw) ⊢ Wp c (kk ⟨⟩) Q) :
    iprop(M ∗ Pr A c 7 k rw 2 aw 0 cw)
      ⊢ Wp c (.op (.enqueueDma (slot7 sM o3 hb3) (.remote (Dev.tc n : Thread nD τ) (slot8 rM o4 hb4)
          (.dma ((cc0_scratch8.slice (Rect.unit (s := S7) o1 S1.size hb1)).squeeze S_ squeezes_S1_S_).sem) hsc)
          (.dma ((cc0_scratch9.slice (Rect.unit (s := S8) o2 S1.size hb2)).squeeze S_ squeezes_S1_S_).sem) hsrc hdst hsem) kk) Q := by
  subst hn ho1 ho2 ho3 ho4
  have l := RS_start_lens (A := A) (c := c) ⟨k, hk⟩
  unfold Lens at l
  have hs7 := slot_s_set ⟨k, hk⟩ hb3
  unfold Pr Core
  iintro ⟨HM, ⟨#Hrec, #Hlev, %W, HO⟩, HAG, HRV, HRS, HR⟩
  ihave H := l $$ HRS
  icases H with ⟨⟨Hs, ⟨%fd, Hd⟩, Hat, Ht1, Ht2⟩, Hback⟩
  ihave Hi := (records_inv A c (.rsS ⟨k, hk⟩)) $$ Hrec
  ihave Hj := (records_inv A (dn c k) (.rsR c)) $$ Hrec
  unfold inv
  icases Hi with ⟨⟨%κ, #Hi⟩, #Hr⟩
  icases Hj with ⟨⟨%κ', #Hj⟩, #Hr'⟩
  ihave Hs := (pts_full (m := sM) (g := DS A c) (fun i _ => ⟨rfl, (i 1).isLt⟩)) $$ Hs
  iapply (wp_copy (A := A) (κ₁ := κ) (κ₂ := κ') (dn c k) (.rsS ⟨k, hk⟩) (.rsR c) rfl (duties_rsR (dn_ne c ⟨k, hk⟩).symm) rfl rfl
    (src := slot7 sM ![k, 0, 0, 0] hb3) (dst := slot8 rM ![c.val, 0, 0, 0] hb4)
    (rsS_sem ⟨k, hk⟩ hb1) (rsR_sem c hb2) rfl (q := fullShare) (fs := DS A c) (fd := fd) (Owe_rs c ⟨k, hk⟩)
    (by rw [hs7]; exact BIBase.Entails.of_eq rfl)
    (by
      rw [slot_r_set c hb4]
      refine BIBase.Entails.of_eq ?_
      exact pointsTo_congr (landed_r c ⟨k, hk⟩ hb4 hb3 fd (DS A c) (DR A (dn c k)) (DS_DR ⟨k, hk⟩)))) $$ [HO Hs Hd Ht1 Ht2]
  · isplitr; · iexact Hi
    isplitr; · iexact Hj
    isplitl [Hs]
    · rw [hs7]; iexact Hs
    isplitl [Hd]
    · iapply (give_r (dn c k) c hb4); iexact Hd
    isplitl [HO]; · iexact HO
    isplitl [Ht1]; · iexact Ht1
    isplitr; · iexact Hr
    isplitl [Ht2]; · iexact Ht2
    iexact Hr'
  iintro ⟨Hcr, HO⟩
  iapply h
  unfold Pr Core
  isplitl [HM]; · iexact HM
  isplitl [HO]
  · isplitr; · iexact Hrec
    isplitr; · iexact Hlev
    iexists _; iexact HO
  isplitl [HAG]; · iexact HAG
  isplitl [HRV]; · iexact HRV
  isplitl [Hback Hcr Hat]
  · iapply Hback
    isplitl [Hcr]; · iexact Hcr
    iexact Hat
  iexact HR

/-! ## The memory the exchanges bring -/

/-- A batch of the rows received at step `k`. -/
theorem ld_recv (k : ℕ) (hk : k < 7) (hr : k < rw) (i : Fin 2) {o4 : Fin 4 → ℕ} (ho : o4 = ![(dn c k).val, i.val, 0, 0])
    {hb} {hl} {kk : Vec F S1x1x512x128 .bf16 → Prog (TpuEff nD τ sig (Elt F) Λ₀ .tc) α}
    (h : iprop(M ∗ Pr A c ag rs rw d aw bw cw) ⊢ Wp c (kk (xb A (dn c k) i)) Q) :
    iprop(M ∗ Pr A c ag rs rw d aw bw cw)
      ⊢ Wp (F := F) c (.op (.load xM (Rect.unit (s := S8x2x512x128) o4 S1x1x512x128.size hb).toLoadRect hl) kk) Q :=
  ld_slot_x i ho (fun _ _ => trivial) (.right (.right (.right (.left (RV_have ⟨k, hk⟩ hr))))) h

/-- A batch of the block received at step `k`. -/
theorem ld_part (k : ℕ) (hk : k < 7) (hr : k < cw) (i : Fin 2) {o4 : Fin 4 → ℕ} (ho : o4 = ![(up c k).val, i.val, 0, 0])
    {hb} {hl} {kk : Vec F S1x1x512x128 .bf16 → Prog (TpuEff nD τ sig (Elt F) Λ₀ .tc) α}
    (h : iprop(M ∗ Pr A c ag rs rw d aw bw cw) ⊢ Wp c (kk (ch A c (up c k) i)) Q) :
    iprop(M ∗ Pr A c ag rs rw d aw bw cw)
      ⊢ Wp (F := F) c (.op (.load rM (Rect.unit (s := S8x2x512x128) o4 S1x1x512x128.size hb).toLoadRect hl) kk) Q :=
  ld_slot_r i ho (.right (.right (.right (.right (.right (.left (AC_have ⟨k, hk⟩ hr))))))) h

/-- The dropped load before a store to the slot to send. -/
theorem any_send (k : ℕ) (hk : k < 7) (i : Fin 2) {o4 : Fin 4 → ℕ} (ho : o4 = ![k, i.val, 0, 0])
    {hb} {hl} {kk : Vec F S1x1x512x128 .bf16 → Prog (TpuEff nD τ sig (Elt F) Λ₀ .tc) α}
    (h : ∀ v, iprop(M ∗ Pr A c ag k rw d aw 0 cw) ⊢ Wp c (kk v) Q) :
    iprop(M ∗ Pr A c ag k rw d aw 0 cw)
      ⊢ Wp (F := F) c (.op (.load sM (Rect.unit (s := S7x2x512x128) o4 S1x1x512x128.size hb).toLoadRect hl) kk) Q :=
  load_any (.right (.right (.right (.right (.left (RS_any_lens ⟨k, hk⟩)))))) (fun j => mem_row7 (s := ⟨k, hk⟩) ho j) h

/-- A batch of the slot to send. -/
theorem st_send (k : ℕ) (hk : k < 7) (i : Fin 2) {o4 : Fin 4 → ℕ} (ho : o4 = ![k, i.val, 0, 0]) {w : Vec F S1x1x512x128 .bf16}
    (hw : w = ch A (dn c k) c i) {hb} {hx} {hm} {kk : PUnit.{1} → Prog (TpuEff nD τ sig (Elt F) Λ₀ .tc) α}
    (h : iprop(M ∗ Pr A c ag k rw (i.val + 1) aw 0 cw) ⊢ Wp c (kk ⟨⟩) Q) :
    iprop(M ∗ Pr A c ag k rw i.val aw 0 cw)
      ⊢ Wp (F := F) c (.op (.store sM (Rect.unit (s := S7x2x512x128) o4 S1x1x512x128.size hb) w Finset.univ hx hm) kk) Q := by
  subst hw
  refine store_step (.right (.right (.right (.right (.left (RS_store_lens ⟨k, hk⟩)))))) (fun j => mem_row7 (s := ⟨k, hk⟩) ho j)
    (fun f j => ?_) (fun j hj hP hne => ?_) h
  · rw [View.write_emb_of_mem _ _ (Finset.mem_univ j), access_emb, emb_row4 (m0 := 7) (m1 := 2) (m2 := 512) (m3 := 128) ⟨k, hk⟩ i ho]
    show ch A (dn c k) c i j = ch A (dn c k) c i (ix4 0 0 (j 2) (j 3))
    congr 1
    rw [eq_ix4 (n0 := 1) (n1 := 1) (n2 := 512) (n3 := 128) j]
    have h0 : (j 0).val < 1 := (j 0).isLt
    have h1 : (j 1).val < 1 := (j 1).isLt
    congr 1 <;> (apply Fin.ext; show _ = 0; omega)
  · refine ⟨⟨rfl, ?_⟩, rfl⟩
    by_contra hlt
    refine hne (ix4 (n0 := 1) (n1 := 1) (n2 := 512) (n3 := 128) 0 0 (j 2) (j 3)) ?_
    rw [access_emb, emb_row4 (m0 := 7) (m1 := 2) (m2 := 512) (m3 := 128) ⟨k, hk⟩ i ho]
    have e0 : (j 0) = (⟨k, hk⟩ : Fin 7) := Fin.ext (mem_set7.mp hj)
    have e1 : (j 1) = i := Fin.ext (by
      have h1 : (j 1).val < i.val + 1 := hP.2
      have h2 : ¬ (j 1).val < i.val := hlt
      omega)
    rw [← e0, ← e1]
    exact (eq_ix4 (n0 := 7) (n1 := 2) (n2 := 512) (n3 := 128) j).symm

end Rules

end Cert.KernelIdeal.Run
-- ==== Proof.KernelIdeal.Parts.lean ====
/-
# The parts of the body

What each part makes of the state, in the order of the program: the numbers say how far the buffers are written and how
many copies are started and received.
-/
module

public import proofs.«01_k».proof.Proof.KernelIdeal.Moves

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable {A : Args F} {c : Dev nD}

/-! ## Devices and offsets -/

theorem off5_dn (k : ℕ) (hk : k < 7) : k0_off5 c (BitVec.ofNat 32 (7 - k)) = ![(dn c k).val] := by
  have h := k0_off5_eq c ⟨6 - k, by omega⟩
  have e1 : 1 + (6 - k) = 7 - k := by omega
  have e2 : c.val + (6 - k) + 1 = c.val + (7 - k) := by omega
  simp only [e1, e2] at h; exact h
theorem off7_dn (k : ℕ) (hk : k < 7) : k0_off7 c (BitVec.ofNat 32 (7 - k)) = ![(dn c k).val, (0 : Fin 2).val, 0, 0] := by
  have h := k0_off7_eq c ⟨6 - k, by omega⟩
  have e1 : 1 + (6 - k) = 7 - k := by omega
  have e2 : c.val + (6 - k) + 1 = c.val + (7 - k) := by omega
  simp only [e1, e2] at h; exact h
theorem off8_dn (k : ℕ) (hk : k < 7) : k0_off8 c (BitVec.ofNat 32 (7 - k)) = ![(dn c k).val, (1 : Fin 2).val, 0, 0] := by
  have h := k0_off8_eq c ⟨6 - k, by omega⟩
  have e1 : 1 + (6 - k) = 7 - k := by omega
  have e2 : c.val + (6 - k) + 1 = c.val + (7 - k) := by omega
  simp only [e1, e2] at h; exact h
theorem off5_up (k : ℕ) (hk : k < 7) : k0_off5 c (BitVec.ofNat 32 (k + 1)) = ![(up c k).val] := by
  have h := k0_off5_eq c ⟨k, hk⟩
  simp only [Nat.add_comm 1 k] at h; exact h
theorem off7_up (k : ℕ) (hk : k < 7) : k0_off7 c (BitVec.ofNat 32 (k + 1)) = ![(up c k).val, (0 : Fin 2).val, 0, 0] := by
  have h := k0_off7_eq c ⟨k, hk⟩
  simp only [Nat.add_comm 1 k] at h; exact h
theorem off8_up (k : ℕ) (hk : k < 7) : k0_off8 c (BitVec.ofNat 32 (k + 1)) = ![(up c k).val, (1 : Fin 2).val, 0, 0] := by
  have h := k0_off8_eq c ⟨k, hk⟩
  simp only [Nat.add_comm 1 k] at h; exact h

/-- The projections' columns are stored where they are read. -/
theorem wq_cols (j : S512x512.Idx) {h} : k0_pay3 (A.wq c) j = WQ A c (ix2 (j 0) ⟨0 + (j 1).val, h⟩) := by
  have h1 : (j 1).val < 512 := (j 1).isLt
  unfold WQ
  rw [dif_pos (show ((ix2 (j 0) ⟨0 + (j 1).val, h⟩ : S512x1536.Idx) 1).val < 512 by show 0 + (j 1).val < 512; omega)]
  congr 1
  refine (eq_ix2 (n0 := 512) (n1 := 512) j).trans ?_
  congr 1
  exact Fin.ext (Nat.zero_add _).symm
theorem wk_cols (j : S512x512.Idx) {h} : k0_pay4 (A.wk c) j = WQ A c (ix2 (j 0) ⟨512 + (j 1).val, h⟩) := by
  have h1 : (j 1).val < 512 := (j 1).isLt
  unfold WQ
  rw [dif_neg (show ¬ ((ix2 (j 0) ⟨512 + (j 1).val, h⟩ : S512x1536.Idx) 1).val < 512 by show ¬ 512 + (j 1).val < 512; omega),
    dif_pos (show ((ix2 (j 0) ⟨512 + (j 1).val, h⟩ : S512x1536.Idx) 1).val < 1024 by show 512 + (j 1).val < 1024; omega)]
  congr 1
  refine (eq_ix2 (n0 := 512) (n1 := 512) j).trans ?_
  congr 1
  exact Fin.ext (Nat.add_sub_cancel_left ..).symm
theorem wv_cols (j : S512x512.Idx) {h} : k0_pay5 (A.wv c) j = WQ A c (ix2 (j 0) ⟨1024 + (j 1).val, h⟩) := by
  have h1 : (j 1).val < 512 := (j 1).isLt
  unfold WQ
  rw [dif_neg (show ¬ ((ix2 (j 0) ⟨1024 + (j 1).val, h⟩ : S512x1536.Idx) 1).val < 512 by show ¬ 1024 + (j 1).val < 512; omega),
    dif_neg (show ¬ ((ix2 (j 0) ⟨1024 + (j 1).val, h⟩ : S512x1536.Idx) 1).val < 1024 by show ¬ 1024 + (j 1).val < 1024; omega)]
  congr 1
  refine (eq_ix2 (n0 := 512) (n1 := 512) j).trans ?_
  congr 1
  exact Fin.ext (Nat.add_sub_cancel_left ..).symm

/-! ## The state from the first copy on -/

variable (A c) in
/-- The device's memory, its own rows shared with seven copies, and where the exchanges stand. -/
abbrev St (q o n0 n1 u ag rs rw d aw bw cw : ℕ) : sProp (MT nD τ sig Unit (Elt F) ℕ UU ℕ) :=
  iprop(Me A c (shareDrop fullShare 7) 2 q o n0 n1 u ∗ Pr A c ag rs rw d aw bw cw)

section Parts

variable {h0 : gM0.IsWhole} {h1 : gM1.IsWhole} {h2 : gM2.IsWhole} {h3 : gM3.IsWhole} {h4 : gM4.IsWhole} {h5 : gM5.IsWhole}
  {h6 : xM.IsWhole} {h7 : sM.IsWhole} {h8 : rM.IsWhole} {h9 : aM.IsWhole} {h10 : qM.IsWhole} {h11 : oM.IsWhole}
variable {v2 w0 w1 : BitVec 32}

theorem part1_spec {Q : (Σ' (d0 : Dev nD) (v2 : BitVec 32) (v3 : Sems sig S_) (v24 : BitVec 32), BitVec 32) → sProp (MT nD τ sig Unit (Elt F) ℕ UU ℕ)} {R : sProp (MT nD τ sig Unit (Elt F) ℕ UU ℕ)}
    (h : ∀ a b e : BitVec 32, iprop(Me A c fullShare 0 0 0 0 0 0 ∗ Core A c 5 0 0 ∗ B1 (F := F) c 5 ∗ R) ⊢ Q ⟨c, a, SemArray.scalar (sig.barrier 0 rfl), b, e⟩) :
    iprop(Me A c fullShare 0 0 0 0 0 0 ∗ Core A c 0 0 0 ∗ B1 (F := F) c 0 ∗ R) ⊢ Wp c (k0_part1 (F := F) gM0 h0 gM1 h1 gM2 h2 gM3 h3 gM4 h4 gM5 h5 xM h6 sM h7 rM h8 aM h9 qM h10 oM h11
        cc0_scratch6 cc0_scratch7 cc0_scratch8 cc0_scratch9) Q := by
  rw [k0_part1_eq_skeleton]; unfold k0_part1_skel
  simp only [semSignalWord, semWaitWord, Prog.lift, Prog.bind_op, Prog.bind_ret, Prog.pure_eq_ret, wp_deviceId]
  refine signal 0 (by decide) (Fin.ext (k0_dev1_eq c)) rfl ?_
  refine signal 1 (by decide) (Fin.ext (k0_dev2_eq c)) rfl ?_
  refine signal 2 (by decide) (Fin.ext (k0_dev3_eq c)) rfl ?_
  refine signal 3 (by decide) (Fin.ext (k0_dev4_eq c)) rfl ?_
  refine signal 4 (by decide) (Fin.ext (k0_dev5_eq c)) rfl ?_
  exact wp_done (h _ _ _)

theorem part2_spec {Q : PUnit → sProp (MT nD τ sig Unit (Elt F) ℕ UU ℕ)} {R : sProp (MT nD τ sig Unit (Elt F) ℕ UU ℕ)}
    (h : iprop(Me A c fullShare 2 0 0 0 0 0 ∗ Core A c 7 0 0 ∗ B2 (F := F) c ∗ R) ⊢ Q ⟨⟩) :
    iprop(Me A c fullShare 0 0 0 0 0 0 ∗ Core A c 5 0 0 ∗ B1 (F := F) c 5 ∗ R) ⊢ Wp c (k0_part2 (F := F) gM0 h0 gM1 h1 gM2 h2 gM3 h3 gM4 h4 gM5 h5 xM h6 sM h7 rM h8 aM h9 qM h10 oM h11
        cc0_scratch6 cc0_scratch7 cc0_scratch8 cc0_scratch9 c v2 (SemArray.scalar (sig.barrier 0 rfl)) w0 w1) Q := by
  rw [k0_part2_eq_skeleton]; unfold k0_part2_skel
  simp only [semSignalWord, semWaitWord, Prog.lift, Prog.bind_op, Prog.bind_ret, Prog.pure_eq_ret]
  refine signal 5 (by decide) (Fin.ext (k0_dev6_eq c)) rfl ?_
  refine signal 6 (by decide) (Fin.ext (k0_dev7_eq c)) rfl ?_
  refine barrier rfl ?_
  refine ld_x 0 rfl ?_
  refine any_own 0 (k0_off1_eq c) fun _ => ?_
  refine st_own 0 (k0_off1_eq c) rfl ?_
  refine ld_x 1 rfl ?_
  refine any_own 1 (k0_off2_eq c) fun _ => ?_
  refine st_own 1 (k0_off2_eq c) (pay2_eq _) ?_
  exact wp_done h

theorem part3_spec {Q : PUnit → sProp (MT nD τ sig Unit (Elt F) ℕ UU ℕ)}
    (h : St A c 0 0 0 0 0 2 0 0 0 0 0 0 ⊢ Q ⟨⟩) :
    St A c 0 0 0 0 0 0 0 0 0 0 0 0 ⊢ Wp c (k0_part3 (F := F) gM0 h0 gM1 h1 gM2 h2 gM3 h3 gM4 h4 gM5 h5 xM h6 sM h7 rM h8 aM h9 qM h10 oM h11
        cc0_scratch6 cc0_scratch7 cc0_scratch8 cc0_scratch9 c v2) Q := by
  rw [k0_part3_eq_skeleton]; unfold k0_part3_skel
  simp only [semSignalWord, semWaitWord, Prog.lift, Prog.bind_op, Prog.bind_ret, Prog.pure_eq_ret]
  refine start_ag 0 (by decide) (Fin.ext (k0_dev8_eq c)) rfl (k0_off3_eq c) (k0_off4_eq c) (k0_off4_eq c) ?_
  refine start_ag 1 (by decide) (Fin.ext (k0_dev9_eq c)) rfl (k0_off3_eq c) (k0_off4_eq c) (k0_off4_eq c) ?_
  exact wp_done h

theorem part4_spec {Q : PUnit → sProp (MT nD τ sig Unit (Elt F) ℕ UU ℕ)}
    (h : St A c 0 0 0 0 0 5 0 0 0 0 0 0 ⊢ Q ⟨⟩) :
    St A c 0 0 0 0 0 2 0 0 0 0 0 0 ⊢ Wp c (k0_part4 (F := F) gM0 h0 gM1 h1 gM2 h2 gM3 h3 gM4 h4 gM5 h5 xM h6 sM h7 rM h8 aM h9 qM h10 oM h11
        cc0_scratch6 cc0_scratch7 cc0_scratch8 cc0_scratch9 c v2) Q := by
  rw [k0_part4_eq_skeleton]; unfold k0_part4_skel
  simp only [semSignalWord, semWaitWord, Prog.lift, Prog.bind_op, Prog.bind_ret, Prog.pure_eq_ret]
  refine start_ag 2 (by decide) (Fin.ext (k0_dev10_eq c)) rfl (k0_off3_eq c) (k0_off4_eq c) (k0_off4_eq c) ?_
  refine start_ag 3 (by decide) (Fin.ext (k0_dev11_eq c)) rfl (k0_off3_eq c) (k0_off4_eq c) (k0_off4_eq c) ?_
  refine start_ag 4 (by decide) (Fin.ext (k0_dev12_eq c)) rfl (k0_off3_eq c) (k0_off4_eq c) (k0_off4_eq c) ?_
  exact wp_done h

theorem part5_spec {Q : PUnit → sProp (MT nD τ sig Unit (Elt F) ℕ UU ℕ)}
    (h : St A c 1024 0 0 0 0 7 0 0 0 0 0 0 ⊢ Q ⟨⟩) :
    St A c 0 0 0 0 0 5 0 0 0 0 0 0 ⊢ Wp c (k0_part5 (F := F) gM0 h0 gM1 h1 gM2 h2 gM3 h3 gM4 h4 gM5 h5 xM h6 sM h7 rM h8 aM h9 qM h10 oM h11
        cc0_scratch6 cc0_scratch7 cc0_scratch8 cc0_scratch9 c v2) Q := by
  rw [k0_part5_eq_skeleton]; unfold k0_part5_skel
  simp only [semSignalWord, semWaitWord, Prog.lift, Prog.bind_op, Prog.bind_ret, Prog.pure_eq_ret]
  refine start_ag 5 (by decide) (Fin.ext (k0_dev13_eq c)) rfl (k0_off3_eq c) (k0_off4_eq c) (k0_off4_eq c) ?_
  refine start_ag 6 (by decide) (Fin.ext (k0_dev14_eq c)) rfl (k0_off3_eq c) (k0_off4_eq c) (k0_off4_eq c) ?_
  refine ld_wq rfl ?_
  refine any_q fun _ => ?_
  refine st_q 0 rfl (by decide) (fun j => wq_cols j) ?_
  refine ld_wk rfl ?_
  refine any_q fun _ => ?_
  refine st_q 512 rfl (by decide) (fun j => wk_cols j) ?_
  exact wp_done h

theorem part6_spec {Q : (Σ' (v180 : FVec F S8x64x128 .f32), FVec F S8x64x128 .f32) → sProp (MT nD τ sig Unit (Elt F) ℕ UU ℕ)}
    (h : St A c 1536 1 0 0 0 7 0 0 0 0 0 0 ⊢ Q ⟨k0_pay9 (xb A c 0) (WQ A c), k0_pay10 (xb A c 0) (WQ A c)⟩) :
    St A c 1024 0 0 0 0 7 0 0 0 0 0 0 ⊢ Wp c (k0_part6 (F := F) gM0 h0 gM1 h1 gM2 h2 gM3 h3 gM4 h4 gM5 h5 xM h6 sM h7 rM h8 aM h9 qM h10 oM h11
        cc0_scratch6 cc0_scratch7 cc0_scratch8 cc0_scratch9 c v2) Q := by
  rw [k0_part6_eq_skeleton]; unfold k0_part6_skel
  simp only [semSignalWord, semWaitWord, Prog.lift, Prog.bind_op, Prog.bind_ret, Prog.pure_eq_ret]
  refine ld_wv rfl ?_
  refine any_q fun _ => ?_
  refine st_q 1024 rfl (by decide) (fun j => wv_cols j) ?_
  refine ld_wo rfl ?_
  refine any_o fun _ => ?_
  refine st_o rfl rfl ?_
  refine ld_own 0 (k0_off1_eq c) ?_
  refine ld_q rfl ?_
  exact wp_done h

theorem part7_spec {Q : (Σ' (v219 : Vec F S512x512 .bf16) (v221 : FVec F S512x128 .bf16), FVec F S512x128 .f32) → sProp (MT nD τ sig Unit (Elt F) ℕ UU ℕ)}
    (h : St A c 1536 1 1 0 0 7 0 0 0 0 0 0 ⊢ Q ⟨WO A c, k0_pay12 (xb A c 1) (WQ A c), zeroO⟩) :
    St A c 1536 1 0 0 0 7 0 0 0 0 0 0 ⊢ Wp c (k0_part7 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay9 (xb A c 0) (WQ A c)) (k0_pay10 (xb A c 0) (WQ A c))) Q := by
  rw [k0_part7_eq_skeleton]; unfold k0_part7_skel
  simp only [semSignalWord, semWaitWord, Prog.lift, Prog.bind_op, Prog.bind_ret, Prog.pure_eq_ret]
  refine ld_o rfl ?_
  refine any_a fun _ => ?_
  refine st_acc 0 0 1 0 rfl rfl rfl (rfl) ?_
  refine ld_own 1 (k0_off2_eq c) ?_
  refine ld_q rfl ?_
  refine ld_o rfl ?_
  exact wp_done h

theorem part8_spec {Q : (Σ' (v227 : BitVec 32) (v249 : FVec F S8x64x128 .bf16), FVec F S8x128x128 .f32) → sProp (MT nD τ sig Unit (Elt F) ℕ UU ℕ)}
    (h : ∀ a : BitVec 32, St A c 1536 1 1 1 0 7 0 1 0 0 0 0 ⊢ Q ⟨a, k0_pay15 (xb A (dn c 0) 0) (WQ A c), k0_pay16 (xb A (dn c 0) 0) (WQ A c)⟩) :
    St A c 1536 1 1 0 0 7 0 0 0 0 0 0 ⊢ Wp c (k0_part8 (F := F) gM0 h0 gM1 h1 gM2 h2 gM3 h3 gM4 h4 gM5 h5 xM h6 sM h7 rM h8 aM h9 qM h10 oM h11
        cc0_scratch6 cc0_scratch7 cc0_scratch8 cc0_scratch9 c v2 (WO A c) (k0_pay12 (xb A c 1) (WQ A c)) zeroO) Q := by
  rw [k0_part8_eq_skeleton]; unfold k0_part8_skel
  simp only [semSignalWord, semWaitWord, Prog.lift, Prog.bind_op, Prog.bind_ret, Prog.pure_eq_ret]
  refine any_a fun _ => ?_
  refine st_acc 1 0 1 1 rfl rfl rfl (pay13_eq _ _ _) ?_
  refine wait_agR 0 (by decide) (off5_dn 0 (by decide)) (by rfl) ?_
  refine ld_recv 0 (by decide) (by decide) 0 (off7_dn 0 (by decide)) ?_
  refine ld_q rfl ?_
  exact wp_done (h _)

theorem part9_spec {Q : (Σ' (v285 : FVec F S8x64x128 .bf16) (v294 : FVec F S8x128 .f32) (v295 : FVec F S8x128x128 .bf16), FVec F S8x64x128 .f32) → sProp (MT nD τ sig Unit (Elt F) ℕ UU ℕ)}
    (h : St A c 1536 1 1 1 0 7 0 1 1 0 0 0 ⊢ Q ⟨k0_pay19 (xb A (dn c 0) 1) (WQ A c), k0_pay21 (xb A (dn c 0) 1) (WQ A c), k0_pay22 (xb A (dn c 0) 1) (WQ A c), zeroV⟩) :
    St A c 1536 1 1 1 0 7 0 1 0 0 0 0 ⊢ Wp c (k0_part9 (F := F) gM0 h0 gM1 h1 gM2 h2 gM3 h3 gM4 h4 gM5 h5 xM h6 sM h7 rM h8 aM h9 qM h10 oM h11
        cc0_scratch6 cc0_scratch7 cc0_scratch8 cc0_scratch9 c w0 (k0_pay15 (xb A (dn c 0) 0) (WQ A c)) (k0_pay16 (xb A (dn c 0) 0) (WQ A c))) Q := by
  rw [k0_part9_eq_skeleton]; unfold k0_part9_skel
  simp only [semSignalWord, semWaitWord, Prog.lift, Prog.bind_op, Prog.bind_ret, Prog.pure_eq_ret]
  refine ld_o rfl ?_
  refine any_send 0 (by decide) 0 rfl fun _ => ?_
  refine st_send 0 (by decide) 0 rfl (rfl) ?_
  refine ld_recv 0 (by decide) (by decide) 1 (off8_dn 0 (by decide)) ?_
  refine ld_q rfl ?_
  exact wp_done h

theorem part10_spec {Q : BitVec 32 → sProp (MT nD τ sig Unit (Elt F) ℕ UU ℕ)}
    (h : ∀ a : BitVec 32, St A c 1536 1 1 1 0 7 1 1 0 0 0 0 ⊢ Q a) :
    St A c 1536 1 1 1 0 7 0 1 1 0 0 0 ⊢ Wp c (k0_part10 (F := F) gM0 h0 gM1 h1 gM2 h2 gM3 h3 gM4 h4 gM5 h5 xM h6 sM h7 rM h8 aM h9 qM h10 oM h11
        cc0_scratch6 cc0_scratch7 cc0_scratch8 cc0_scratch9 c v2 w0 (k0_pay19 (xb A (dn c 0) 1) (WQ A c)) (k0_pay21 (xb A (dn c 0) 1) (WQ A c)) (k0_pay22 (xb A (dn c 0) 1) (WQ A c)) zeroV) Q := by
  rw [k0_part10_eq_skeleton]; unfold k0_part10_skel
  simp only [semSignalWord, semWaitWord, Prog.lift, Prog.bind_op, Prog.bind_ret, Prog.pure_eq_ret]
  refine ld_o rfl ?_
  refine any_send 0 (by decide) 1 rfl fun _ => ?_
  refine st_send 0 (by decide) 1 rfl (pay23_eq _ _ _) ?_
  refine start_rs 0 (by decide) (Fin.ext (k0_dev15_eq c)) rfl (k0_off3_eq c) rfl (k0_off4_eq c) ?_
  exact wp_done (h _)

theorem part11_spec {Q : PUnit → sProp (MT nD τ sig Unit (Elt F) ℕ UU ℕ)}
    (h : St A c 1536 1 1 1 0 7 1 2 1 0 0 0 ⊢ Q ⟨⟩) :
    St A c 1536 1 1 1 0 7 1 1 0 0 0 0 ⊢ Wp c (k0_part11 (F := F) gM0 h0 gM1 h1 gM2 h2 gM3 h3 gM4 h4 gM5 h5 xM h6 sM h7 rM h8 aM h9 qM h10 oM h11
        cc0_scratch6 cc0_scratch7 cc0_scratch8 cc0_scratch9 c w0) Q := by
  rw [k0_part11_eq_skeleton]; unfold k0_part11_skel
  simp only [semSignalWord, semWaitWord, Prog.lift, Prog.bind_op, Prog.bind_ret, Prog.pure_eq_ret]
  refine wait_agR 1 (by decide) (off5_dn 1 (by decide)) (by rfl) ?_
  refine ld_recv 1 (by decide) (by decide) 0 (off7_dn 1 (by decide)) ?_
  refine ld_q rfl ?_
  refine ld_o rfl ?_
  refine any_send 1 (by decide) 0 rfl fun _ => ?_
  refine st_send 1 (by decide) 0 rfl (pay24_eq _ _ _) ?_
  exact wp_done h

theorem part12_spec {Q : PUnit → sProp (MT nD τ sig Unit (Elt F) ℕ UU ℕ)}
    (h : St A c 1536 1 1 1 0 7 1 2 2 0 0 0 ⊢ Q ⟨⟩) :
    St A c 1536 1 1 1 0 7 1 2 1 0 0 0 ⊢ Wp c (k0_part12 (F := F) gM0 h0 gM1 h1 gM2 h2 gM3 h3 gM4 h4 gM5 h5 xM h6 sM h7 rM h8 aM h9 qM h10 oM h11
        cc0_scratch6 cc0_scratch7 cc0_scratch8 cc0_scratch9 c w0) Q := by
  rw [k0_part12_eq_skeleton]; unfold k0_part12_skel
  simp only [semSignalWord, semWaitWord, Prog.lift, Prog.bind_op, Prog.bind_ret, Prog.pure_eq_ret]
  refine ld_recv 1 (by decide) (by decide) 1 (off8_dn 1 (by decide)) ?_
  refine ld_q rfl ?_
  refine ld_o rfl ?_
  refine any_send 1 (by decide) 1 rfl fun _ => ?_
  refine st_send 1 (by decide) 1 rfl (pay25_eq _ _ _) ?_
  exact wp_done h

theorem part13_spec {Q : (Σ' (v411 : BitVec 32) (v433 : FVec F S8x64x128 .bf16) (v434 : FVec F S8x128x128 .f32), FVec F S8x128x128 .f32) → sProp (MT nD τ sig Unit (Elt F) ℕ UU ℕ)}
    (h : ∀ a : BitVec 32, St A c 1536 1 1 1 0 7 2 3 0 0 0 0 ⊢ Q ⟨a, k0_pay27 (xb A (dn c 2) 0) (WQ A c), k0_pay28 (xb A (dn c 2) 0) (WQ A c), k0_pay29⟩) :
    St A c 1536 1 1 1 0 7 1 2 2 0 0 0 ⊢ Wp c (k0_part13 (F := F) gM0 h0 gM1 h1 gM2 h2 gM3 h3 gM4 h4 gM5 h5 xM h6 sM h7 rM h8 aM h9 qM h10 oM h11
        cc0_scratch6 cc0_scratch7 cc0_scratch8 cc0_scratch9 c v2) Q := by
  rw [k0_part13_eq_skeleton]; unfold k0_part13_skel
  simp only [semSignalWord, semWaitWord, Prog.lift, Prog.bind_op, Prog.bind_ret, Prog.pure_eq_ret]
  refine start_rs 1 (by decide) (Fin.ext (k0_dev16_eq c)) rfl (k0_off3_eq c) rfl (k0_off4_eq c) ?_
  refine wait_agR 2 (by decide) (off5_dn 2 (by decide)) (by rfl) ?_
  refine ld_recv 2 (by decide) (by decide) 0 (off7_dn 2 (by decide)) ?_
  refine ld_q rfl ?_
  exact wp_done (h _)

theorem part14_spec {Q : (Σ' (v469 : FVec F S8x64x128 .bf16) (v472 : FVec F S8x128x128 .f32), FVec F S8x128x128 .f32) → sProp (MT nD τ sig Unit (Elt F) ℕ UU ℕ)}
    (h : St A c 1536 1 1 1 0 7 2 3 1 0 0 0 ⊢ Q ⟨k0_pay32 (xb A (dn c 2) 1) (WQ A c), k0_pay33 (xb A (dn c 2) 1) (WQ A c), k0_pay34 (xb A (dn c 2) 1) (WQ A c)⟩) :
    St A c 1536 1 1 1 0 7 2 3 0 0 0 0 ⊢ Wp c (k0_part14 (F := F) gM0 h0 gM1 h1 gM2 h2 gM3 h3 gM4 h4 gM5 h5 xM h6 sM h7 rM h8 aM h9 qM h10 oM h11
        cc0_scratch6 cc0_scratch7 cc0_scratch8 cc0_scratch9 c w0 (k0_pay27 (xb A (dn c 2) 0) (WQ A c)) (k0_pay28 (xb A (dn c 2) 0) (WQ A c)) k0_pay29) Q := by
  rw [k0_part14_eq_skeleton]; unfold k0_part14_skel
  simp only [semSignalWord, semWaitWord, Prog.lift, Prog.bind_op, Prog.bind_ret, Prog.pure_eq_ret]
  refine ld_o rfl ?_
  refine any_send 2 (by decide) 0 rfl fun _ => ?_
  refine st_send 2 (by decide) 0 rfl (pay30_eq _ _ _) ?_
  refine ld_recv 2 (by decide) (by decide) 1 (off8_dn 2 (by decide)) ?_
  refine ld_q rfl ?_
  exact wp_done h

theorem part15_spec {Q : BitVec 32 → sProp (MT nD τ sig Unit (Elt F) ℕ UU ℕ)}
    (h : ∀ a : BitVec 32, St A c 1536 1 1 1 0 7 3 3 0 0 0 0 ⊢ Q a) :
    St A c 1536 1 1 1 0 7 2 3 1 0 0 0 ⊢ Wp c (k0_part15 (F := F) gM0 h0 gM1 h1 gM2 h2 gM3 h3 gM4 h4 gM5 h5 xM h6 sM h7 rM h8 aM h9 qM h10 oM h11
        cc0_scratch6 cc0_scratch7 cc0_scratch8 cc0_scratch9 c v2 w0 (k0_pay32 (xb A (dn c 2) 1) (WQ A c)) (k0_pay33 (xb A (dn c 2) 1) (WQ A c)) (k0_pay34 (xb A (dn c 2) 1) (WQ A c))) Q := by
  rw [k0_part15_eq_skeleton]; unfold k0_part15_skel
  simp only [semSignalWord, semWaitWord, Prog.lift, Prog.bind_op, Prog.bind_ret, Prog.pure_eq_ret]
  refine ld_o rfl ?_
  refine any_send 2 (by decide) 1 rfl fun _ => ?_
  refine st_send 2 (by decide) 1 rfl (pay35_eq _ _ _) ?_
  refine start_rs 2 (by decide) (Fin.ext (k0_dev17_eq c)) rfl (k0_off3_eq c) rfl (k0_off4_eq c) ?_
  exact wp_done (h _)

theorem part16_spec {Q : (FVec F S512x128 .bf16) → sProp (MT nD τ sig Unit (Elt F) ℕ UU ℕ)}
    (h : St A c 1536 1 1 1 0 7 3 4 0 0 0 0 ⊢ Q (k0_pay36 (xb A (dn c 3) 0) (WQ A c) (WO A c))) :
    St A c 1536 1 1 1 0 7 3 3 0 0 0 0 ⊢ Wp c (k0_part16 (F := F) gM0 h0 gM1 h1 gM2 h2 gM3 h3 gM4 h4 gM5 h5 xM h6 sM h7 rM h8 aM h9 qM h10 oM h11
        cc0_scratch6 cc0_scratch7 cc0_scratch8 cc0_scratch9 c w0) Q := by
  rw [k0_part16_eq_skeleton]; unfold k0_part16_skel
  simp only [semSignalWord, semWaitWord, Prog.lift, Prog.bind_op, Prog.bind_ret, Prog.pure_eq_ret]
  refine wait_agR 3 (by decide) (off5_dn 3 (by decide)) (by rfl) ?_
  refine ld_recv 3 (by decide) (by decide) 0 (off7_dn 3 (by decide)) ?_
  refine ld_q rfl ?_
  refine ld_o rfl ?_
  exact wp_done h

theorem part17_spec {Q : PUnit → sProp (MT nD τ sig Unit (Elt F) ℕ UU ℕ)}
    (h : St A c 1536 1 1 1 0 7 3 4 2 0 0 0 ⊢ Q ⟨⟩) :
    St A c 1536 1 1 1 0 7 3 4 0 0 0 0 ⊢ Wp c (k0_part17 (F := F) gM0 h0 gM1 h1 gM2 h2 gM3 h3 gM4 h4 gM5 h5 xM h6 sM h7 rM h8 aM h9 qM h10 oM h11
        cc0_scratch6 cc0_scratch7 cc0_scratch8 cc0_scratch9 c w0 (k0_pay36 (xb A (dn c 3) 0) (WQ A c) (WO A c))) Q := by
  rw [k0_part17_eq_skeleton]; unfold k0_part17_skel
  simp only [semSignalWord, semWaitWord, Prog.lift, Prog.bind_op, Prog.bind_ret, Prog.pure_eq_ret]
  refine any_send 3 (by decide) 0 rfl fun _ => ?_
  refine st_send 3 (by decide) 0 rfl (pay37_eq _ _ _) ?_
  refine ld_recv 3 (by decide) (by decide) 1 (off8_dn 3 (by decide)) ?_
  refine ld_q rfl ?_
  refine ld_o rfl ?_
  refine any_send 3 (by decide) 1 rfl fun _ => ?_
  refine st_send 3 (by decide) 1 rfl (pay38_eq _ _ _) ?_
  exact wp_done h

theorem part18_spec {Q : (Σ' (v595 : BitVec 32) (v611 : FVec F S8x64x128 .bf16) (v614 : FVec F S8x64x128 .bf16), FVec F S512x128 .f32) → sProp (MT nD τ sig Unit (Elt F) ℕ UU ℕ)}
    (h : ∀ a : BitVec 32, St A c 1536 1 1 1 0 7 4 5 0 0 0 0 ⊢ Q ⟨a, k0_pay40 (xb A (dn c 4) 0) (WQ A c), k0_pay41 (xb A (dn c 4) 0) (WQ A c), k0_pay42 (xb A (dn c 4) 0) (WQ A c)⟩) :
    St A c 1536 1 1 1 0 7 3 4 2 0 0 0 ⊢ Wp c (k0_part18 (F := F) gM0 h0 gM1 h1 gM2 h2 gM3 h3 gM4 h4 gM5 h5 xM h6 sM h7 rM h8 aM h9 qM h10 oM h11
        cc0_scratch6 cc0_scratch7 cc0_scratch8 cc0_scratch9 c v2 w0) Q := by
  rw [k0_part18_eq_skeleton]; unfold k0_part18_skel
  simp only [semSignalWord, semWaitWord, Prog.lift, Prog.bind_op, Prog.bind_ret, Prog.pure_eq_ret]
  refine start_rs 3 (by decide) (Fin.ext (k0_dev18_eq c)) rfl (k0_off3_eq c) rfl (k0_off4_eq c) ?_
  refine wait_agR 4 (by decide) (off5_dn 4 (by decide)) (by rfl) ?_
  refine ld_recv 4 (by decide) (by decide) 0 (off7_dn 4 (by decide)) ?_
  refine ld_q rfl ?_
  exact wp_done (h _)

theorem part19_spec {Q : (Σ' (v653 : FVec F S8x64x128 .bf16) (v654 : FVec F S8x128x128 .f32), F .f32) → sProp (MT nD τ sig Unit (Elt F) ℕ UU ℕ)}
    (h : St A c 1536 1 1 1 0 7 4 5 1 0 0 0 ⊢ Q ⟨k0_pay45 (xb A (dn c 4) 1) (WQ A c), k0_pay46 (xb A (dn c 4) 1) (WQ A c), eighth⟩) :
    St A c 1536 1 1 1 0 7 4 5 0 0 0 0 ⊢ Wp c (k0_part19 (F := F) gM0 h0 gM1 h1 gM2 h2 gM3 h3 gM4 h4 gM5 h5 xM h6 sM h7 rM h8 aM h9 qM h10 oM h11
        cc0_scratch6 cc0_scratch7 cc0_scratch8 cc0_scratch9 c w0 (k0_pay40 (xb A (dn c 4) 0) (WQ A c)) (k0_pay41 (xb A (dn c 4) 0) (WQ A c)) (k0_pay42 (xb A (dn c 4) 0) (WQ A c))) Q := by
  rw [k0_part19_eq_skeleton]; unfold k0_part19_skel
  simp only [semSignalWord, semWaitWord, Prog.lift, Prog.bind_op, Prog.bind_ret, Prog.pure_eq_ret]
  refine ld_o rfl ?_
  refine any_send 4 (by decide) 0 rfl fun _ => ?_
  refine st_send 4 (by decide) 0 rfl (pay43_eq _ _ _) ?_
  refine ld_recv 4 (by decide) (by decide) 1 (off8_dn 4 (by decide)) ?_
  refine ld_q rfl ?_
  exact wp_done h

theorem part20_spec {Q : (Σ' (v687 : BitVec 32), BitVec 32) → sProp (MT nD τ sig Unit (Elt F) ℕ UU ℕ)}
    (h : ∀ a b : BitVec 32, St A c 1536 1 1 1 0 7 5 5 0 0 0 0 ⊢ Q ⟨a, b⟩) :
    St A c 1536 1 1 1 0 7 4 5 1 0 0 0 ⊢ Wp c (k0_part20 (F := F) gM0 h0 gM1 h1 gM2 h2 gM3 h3 gM4 h4 gM5 h5 xM h6 sM h7 rM h8 aM h9 qM h10 oM h11
        cc0_scratch6 cc0_scratch7 cc0_scratch8 cc0_scratch9 c v2 w0 (k0_pay45 (xb A (dn c 4) 1) (WQ A c)) (k0_pay46 (xb A (dn c 4) 1) (WQ A c)) eighth) Q := by
  rw [k0_part20_eq_skeleton]; unfold k0_part20_skel
  simp only [semSignalWord, semWaitWord, Prog.lift, Prog.bind_op, Prog.bind_ret, Prog.pure_eq_ret]
  refine ld_o rfl ?_
  refine any_send 4 (by decide) 1 rfl fun _ => ?_
  refine st_send 4 (by decide) 1 rfl (pay47_eq _ _ _) ?_
  refine start_rs 4 (by decide) (Fin.ext (k0_dev19_eq c)) rfl (k0_off3_eq c) rfl (k0_off4_eq c) ?_
  exact wp_done (h _ _)

theorem part21_spec {Q : (Σ' (v724 : Vec F S512x512 .bf16) (v726 : FVec F S512x128 .bf16), FVec F S512x128 .f32) → sProp (MT nD τ sig Unit (Elt F) ℕ UU ℕ)}
    (h : St A c 1536 1 1 1 0 7 5 6 0 0 0 0 ⊢ Q ⟨WO A c, k0_pay48 (xb A (dn c 5) 0) (WQ A c), zeroO⟩) :
    St A c 1536 1 1 1 0 7 5 5 0 0 0 0 ⊢ Wp c (k0_part21 (F := F) gM0 h0 gM1 h1 gM2 h2 gM3 h3 gM4 h4 gM5 h5 xM h6 sM h7 rM h8 aM h9 qM h10 oM h11
        cc0_scratch6 cc0_scratch7 cc0_scratch8 cc0_scratch9 c w0 w1) Q := by
  rw [k0_part21_eq_skeleton]; unfold k0_part21_skel
  simp only [semSignalWord, semWaitWord, Prog.lift, Prog.bind_op, Prog.bind_ret, Prog.pure_eq_ret]
  refine wait_agR 5 (by decide) (off5_dn 5 (by decide)) (by rfl) ?_
  refine ld_recv 5 (by decide) (by decide) 0 (off7_dn 5 (by decide)) ?_
  refine ld_q rfl ?_
  refine ld_o rfl ?_
  exact wp_done h

theorem part22_spec {Q : (FVec F S512x128 .bf16) → sProp (MT nD τ sig Unit (Elt F) ℕ UU ℕ)}
    (h : St A c 1536 1 1 1 0 7 5 6 1 0 0 0 ⊢ Q (k0_pay50 (xb A (dn c 5) 1) (WQ A c) (WO A c))) :
    St A c 1536 1 1 1 0 7 5 6 0 0 0 0 ⊢ Wp c (k0_part22 (F := F) gM0 h0 gM1 h1 gM2 h2 gM3 h3 gM4 h4 gM5 h5 xM h6 sM h7 rM h8 aM h9 qM h10 oM h11
        cc0_scratch6 cc0_scratch7 cc0_scratch8 cc0_scratch9 c w0 (WO A c) (k0_pay48 (xb A (dn c 5) 0) (WQ A c)) zeroO) Q := by
  rw [k0_part22_eq_skeleton]; unfold k0_part22_skel
  simp only [semSignalWord, semWaitWord, Prog.lift, Prog.bind_op, Prog.bind_ret, Prog.pure_eq_ret]
  refine any_send 5 (by decide) 0 rfl fun _ => ?_
  refine st_send 5 (by decide) 0 rfl (pay49_eq _ _ _) ?_
  refine ld_recv 5 (by decide) (by decide) 1 (off8_dn 5 (by decide)) ?_
  refine ld_q rfl ?_
  refine ld_o rfl ?_
  exact wp_done h

theorem part23_spec {Q : (Σ' (v779 : BitVec 32) (v792 : FVec F S1536x128 .f32), FVec F S512x128 .f32) → sProp (MT nD τ sig Unit (Elt F) ℕ UU ℕ)}
    (h : ∀ a : BitVec 32, St A c 1536 1 1 1 0 7 6 7 0 0 0 0 ⊢ Q ⟨a, k0_pay52 (xb A (dn c 6) 0) (WQ A c), k0_pay53 (xb A (dn c 6) 0) (WQ A c)⟩) :
    St A c 1536 1 1 1 0 7 5 6 1 0 0 0 ⊢ Wp c (k0_part23 (F := F) gM0 h0 gM1 h1 gM2 h2 gM3 h3 gM4 h4 gM5 h5 xM h6 sM h7 rM h8 aM h9 qM h10 oM h11
        cc0_scratch6 cc0_scratch7 cc0_scratch8 cc0_scratch9 c v2 w0 (k0_pay50 (xb A (dn c 5) 1) (WQ A c) (WO A c))) Q := by
  rw [k0_part23_eq_skeleton]; unfold k0_part23_skel
  simp only [semSignalWord, semWaitWord, Prog.lift, Prog.bind_op, Prog.bind_ret, Prog.pure_eq_ret]
  refine any_send 5 (by decide) 1 rfl fun _ => ?_
  refine st_send 5 (by decide) 1 rfl (pay51_eq _ _ _) ?_
  refine start_rs 5 (by decide) (Fin.ext (k0_dev20_eq c)) rfl (k0_off3_eq c) rfl (k0_off4_eq c) ?_
  refine wait_agR 6 (by decide) (off5_dn 6 (by decide)) (by rfl) ?_
  refine ld_recv 6 (by decide) (by decide) 0 (off7_dn 6 (by decide)) ?_
  refine ld_q rfl ?_
  exact wp_done (h _)

theorem part24_spec {Q : (Σ' (v828 : FVec F S1536x128 .f32) (v831 : FVec F S8x64x128 .bf16), FVec F S8x64x128 .bf16) → sProp (MT nD τ sig Unit (Elt F) ℕ UU ℕ)}
    (h : St A c 1536 1 1 1 0 7 6 7 1 0 0 0 ⊢ Q ⟨k0_pay55 (xb A (dn c 6) 1) (WQ A c), k0_pay56 (xb A (dn c 6) 1) (WQ A c), k0_pay57 (xb A (dn c 6) 1) (WQ A c)⟩) :
    St A c 1536 1 1 1 0 7 6 7 0 0 0 0 ⊢ Wp c (k0_part24 (F := F) gM0 h0 gM1 h1 gM2 h2 gM3 h3 gM4 h4 gM5 h5 xM h6 sM h7 rM h8 aM h9 qM h10 oM h11
        cc0_scratch6 cc0_scratch7 cc0_scratch8 cc0_scratch9 c w0 (k0_pay52 (xb A (dn c 6) 0) (WQ A c)) (k0_pay53 (xb A (dn c 6) 0) (WQ A c))) Q := by
  rw [k0_part24_eq_skeleton]; unfold k0_part24_skel
  simp only [semSignalWord, semWaitWord, Prog.lift, Prog.bind_op, Prog.bind_ret, Prog.pure_eq_ret]
  refine ld_o rfl ?_
  refine any_send 6 (by decide) 0 rfl fun _ => ?_
  refine st_send 6 (by decide) 0 rfl (pay54_eq _ _ _) ?_
  refine ld_recv 6 (by decide) (by decide) 1 (off8_dn 6 (by decide)) ?_
  refine ld_q rfl ?_
  exact wp_done h

theorem part25_spec {Q : BitVec 32 → sProp (MT nD τ sig Unit (Elt F) ℕ UU ℕ)}
    (h : ∀ a : BitVec 32, St A c 1536 1 1 1 0 7 7 7 0 0 0 0 ⊢ Q a) :
    St A c 1536 1 1 1 0 7 6 7 1 0 0 0 ⊢ Wp c (k0_part25 (F := F) gM0 h0 gM1 h1 gM2 h2 gM3 h3 gM4 h4 gM5 h5 xM h6 sM h7 rM h8 aM h9 qM h10 oM h11
        cc0_scratch6 cc0_scratch7 cc0_scratch8 cc0_scratch9 c w0 (k0_pay55 (xb A (dn c 6) 1) (WQ A c)) (k0_pay56 (xb A (dn c 6) 1) (WQ A c)) (k0_pay57 (xb A (dn c 6) 1) (WQ A c))) Q := by
  rw [k0_part25_eq_skeleton]; unfold k0_part25_skel
  simp only [semSignalWord, semWaitWord, Prog.lift, Prog.bind_op, Prog.bind_ret, Prog.pure_eq_ret]
  refine ld_o rfl ?_
  refine any_send 6 (by decide) 1 rfl fun _ => ?_
  refine st_send 6 (by decide) 1 rfl (pay58_eq _ _ _) ?_
  refine start_rs 6 (by decide) (Fin.ext (k0_dev21_eq c)) rfl (k0_off3_eq c) rfl (k0_off4_eq c) ?_
  exact wp_done (h _)

theorem part26_spec {Q : (FVec F S1x512x128 .f32) → sProp (MT nD τ sig Unit (Elt F) ℕ UU ℕ)}
    (h : St A c 1536 1 2 1 0 7 7 7 0 0 0 1 ⊢ Q (k0_pay60 (ACC A c 1 0) (ch A c (up c 0) 1))) :
    St A c 1536 1 1 1 0 7 7 7 0 0 0 0 ⊢ Wp c (k0_part26 (F := F) gM0 h0 gM1 h1 gM2 h2 gM3 h3 gM4 h4 gM5 h5 xM h6 sM h7 rM h8 aM h9 qM h10 oM h11
        cc0_scratch6 cc0_scratch7 cc0_scratch8 cc0_scratch9 c v2 w0) Q := by
  rw [k0_part26_eq_skeleton]; unfold k0_part26_skel
  simp only [semSignalWord, semWaitWord, Prog.lift, Prog.bind_op, Prog.bind_ret, Prog.pure_eq_ret]
  refine wait_rsR 0 (by decide) (off5_up 0 (by decide)) (by rfl) ?_
  refine ld_acc 0 (n := 0) rfl rfl ?_
  refine ld_part 0 (by decide) (by decide) 0 (off7_up 0 (by decide)) ?_
  refine any_a fun _ => ?_
  refine st_acc 0 1 2 1 rfl rfl rfl (pay59_eq _ _) ?_
  refine ld_acc 1 (n := 0) rfl rfl ?_
  refine ld_part 0 (by decide) (by decide) 1 (off8_up 0 (by decide)) ?_
  refine any_a fun _ => ?_
  exact wp_done h

theorem part27_spec {Q : (Σ' (v926 : FVec F S512x128 .f32), Vec F S1x512x128 .f32) → sProp (MT nD τ sig Unit (Elt F) ℕ UU ℕ)}
    (h : St A c 1536 1 3 2 0 7 7 7 0 0 0 2 ⊢ Q ⟨k0_pay62 (ACC A c 1 1) (ch A c (up c 1) 1), ACC A c 1 1⟩) :
    St A c 1536 1 2 1 0 7 7 7 0 0 0 1 ⊢ Wp c (k0_part27 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay60 (ACC A c 1 0) (ch A c (up c 0) 1))) Q := by
  rw [k0_part27_eq_skeleton]; unfold k0_part27_skel
  simp only [semSignalWord, semWaitWord, Prog.lift, Prog.bind_op, Prog.bind_ret, Prog.pure_eq_ret]
  refine st_acc 1 1 2 2 rfl rfl rfl (rfl) ?_
  refine wait_rsR 1 (by decide) (off5_up 1 (by decide)) (by rfl) ?_
  refine ld_acc 0 (n := 1) rfl rfl ?_
  refine ld_part 1 (by decide) (by decide) 0 (off7_up 1 (by decide)) ?_
  refine any_a fun _ => ?_
  refine st_acc 0 2 3 2 rfl rfl rfl (pay61_eq _ _) ?_
  refine ld_acc 1 (n := 1) rfl rfl ?_
  refine ld_part 1 (by decide) (by decide) 1 (off8_up 1 (by decide)) ?_
  refine ld_acc 1 (n := 1) rfl rfl ?_
  exact wp_done h

theorem part28_spec {Q : (FVec F S512x128 .f32) → sProp (MT nD τ sig Unit (Elt F) ℕ UU ℕ)}
    (h : St A c 1536 1 4 3 0 7 7 7 0 0 0 3 ⊢ Q (k0_pay65 (ACC A c 1 2) (ch A c (up c 2) 1))) :
    St A c 1536 1 3 2 0 7 7 7 0 0 0 2 ⊢ Wp c (k0_part28 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay62 (ACC A c 1 1) (ch A c (up c 1) 1)) (ACC A c 1 1)) Q := by
  rw [k0_part28_eq_skeleton]; unfold k0_part28_skel
  simp only [semSignalWord, semWaitWord, Prog.lift, Prog.bind_op, Prog.bind_ret, Prog.pure_eq_ret]
  refine st_acc 1 2 3 3 rfl rfl rfl (pay63_eq _ _) ?_
  refine wait_rsR 2 (by decide) (off5_up 2 (by decide)) (by rfl) ?_
  refine ld_acc 0 (n := 2) rfl rfl ?_
  refine ld_part 2 (by decide) (by decide) 0 (off7_up 2 (by decide)) ?_
  refine any_a fun _ => ?_
  refine st_acc 0 3 4 3 rfl rfl rfl (pay64_eq _ _) ?_
  refine ld_acc 1 (n := 2) rfl rfl ?_
  refine ld_part 2 (by decide) (by decide) 1 (off8_up 2 (by decide)) ?_
  exact wp_done h

theorem part29_spec {Q : (FVec F S512x128 .f32) → sProp (MT nD τ sig Unit (Elt F) ℕ UU ℕ)}
    (h : St A c 1536 1 5 4 0 7 7 7 0 0 0 4 ⊢ Q (k0_pay68 (ACC A c 1 3) (ch A c (up c 3) 1))) :
    St A c 1536 1 4 3 0 7 7 7 0 0 0 3 ⊢ Wp c (k0_part29 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay65 (ACC A c 1 2) (ch A c (up c 2) 1))) Q := by
  rw [k0_part29_eq_skeleton]; unfold k0_part29_skel
  simp only [semSignalWord, semWaitWord, Prog.lift, Prog.bind_op, Prog.bind_ret, Prog.pure_eq_ret]
  refine any_a fun _ => ?_
  refine st_acc 1 3 4 4 rfl rfl rfl (pay66_eq _ _) ?_
  refine wait_rsR 3 (by decide) (off5_up 3 (by decide)) (by rfl) ?_
  refine ld_acc 0 (n := 3) rfl rfl ?_
  refine ld_part 3 (by decide) (by decide) 0 (off7_up 3 (by decide)) ?_
  refine any_a fun _ => ?_
  refine st_acc 0 4 5 4 rfl rfl rfl (pay67_eq _ _) ?_
  refine ld_acc 1 (n := 3) rfl rfl ?_
  refine ld_part 3 (by decide) (by decide) 1 (off8_up 3 (by decide)) ?_
  exact wp_done h

theorem part30_spec {Q : (Σ' (v1011 : FVec F S512x128 .f32), FVec F S512x128 .bf16) → sProp (MT nD τ sig Unit (Elt F) ℕ UU ℕ)}
    (h : St A c 1536 1 6 5 0 7 7 7 0 0 0 5 ⊢ Q ⟨k0_pay71 (ACC A c 1 4), k0_pay72 (ch A c (up c 4) 1)⟩) :
    St A c 1536 1 5 4 0 7 7 7 0 0 0 4 ⊢ Wp c (k0_part30 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay68 (ACC A c 1 3) (ch A c (up c 3) 1))) Q := by
  rw [k0_part30_eq_skeleton]; unfold k0_part30_skel
  simp only [semSignalWord, semWaitWord, Prog.lift, Prog.bind_op, Prog.bind_ret, Prog.pure_eq_ret]
  refine any_a fun _ => ?_
  refine st_acc 1 4 5 5 rfl rfl rfl (pay69_eq _ _) ?_
  refine wait_rsR 4 (by decide) (off5_up 4 (by decide)) (by rfl) ?_
  refine ld_acc 0 (n := 4) rfl rfl ?_
  refine ld_part 4 (by decide) (by decide) 0 (off7_up 4 (by decide)) ?_
  refine any_a fun _ => ?_
  refine st_acc 0 5 6 5 rfl rfl rfl (pay70_eq _ _) ?_
  refine ld_acc 1 (n := 4) rfl rfl ?_
  refine ld_part 4 (by decide) (by decide) 1 (off8_up 4 (by decide)) ?_
  exact wp_done h

theorem part31_spec {Q : (FVec F S512x128 .f32) → sProp (MT nD τ sig Unit (Elt F) ℕ UU ℕ)}
    (h : St A c 1536 1 7 6 0 7 7 7 0 0 0 6 ⊢ Q (k0_pay75 (ACC A c 1 5))) :
    St A c 1536 1 6 5 0 7 7 7 0 0 0 5 ⊢ Wp c (k0_part31 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay71 (ACC A c 1 4)) (k0_pay72 (ch A c (up c 4) 1))) Q := by
  rw [k0_part31_eq_skeleton]; unfold k0_part31_skel
  simp only [semSignalWord, semWaitWord, Prog.lift, Prog.bind_op, Prog.bind_ret, Prog.pure_eq_ret]
  refine any_a fun _ => ?_
  refine st_acc 1 5 6 6 rfl rfl rfl (pay73_eq _ _) ?_
  refine wait_rsR 5 (by decide) (off5_up 5 (by decide)) (by rfl) ?_
  refine ld_acc 0 (n := 5) rfl rfl ?_
  refine ld_part 5 (by decide) (by decide) 0 (off7_up 5 (by decide)) ?_
  refine any_a fun _ => ?_
  refine st_acc 0 6 7 6 rfl rfl rfl (pay74_eq _ _) ?_
  refine ld_acc 1 (n := 5) rfl rfl ?_
  exact wp_done h

theorem part32_spec {Q : (FVec F S512x128 .f32) → sProp (MT nD τ sig Unit (Elt F) ℕ UU ℕ)}
    (h : St A c 1536 1 8 7 0 7 7 7 0 0 0 7 ⊢ Q (k0_pay78 (ACC A c 1 6))) :
    St A c 1536 1 7 6 0 7 7 7 0 0 0 6 ⊢ Wp c (k0_part32 (F := F) gM0 h0 gM1 h1 gM2 h2 gM3 h3 gM4 h4 gM5 h5 xM h6 sM h7 rM h8 aM h9 qM h10 oM h11
        cc0_scratch6 cc0_scratch7 cc0_scratch8 cc0_scratch9 c v2 (k0_pay75 (ACC A c 1 5))) Q := by
  rw [k0_part32_eq_skeleton]; unfold k0_part32_skel
  simp only [semSignalWord, semWaitWord, Prog.lift, Prog.bind_op, Prog.bind_ret, Prog.pure_eq_ret]
  refine ld_part 5 (by decide) (by decide) 1 (off8_up 5 (by decide)) ?_
  refine any_a fun _ => ?_
  refine st_acc 1 6 7 7 rfl rfl rfl (pay76_eq _ _) ?_
  refine wait_rsR 6 (by decide) (off5_up 6 (by decide)) (by rfl) ?_
  refine ld_acc 0 (n := 6) rfl rfl ?_
  refine ld_part 6 (by decide) (by decide) 0 (off7_up 6 (by decide)) ?_
  refine any_a fun _ => ?_
  refine st_acc 0 7 8 7 rfl rfl rfl (pay77_eq _ _) ?_
  refine ld_acc 1 (n := 6) rfl rfl ?_
  exact wp_done h

theorem part33_spec {Q : PUnit → sProp (MT nD τ sig Unit (Elt F) ℕ UU ℕ)}
    (h : St A c 1536 1 8 8 2 7 7 7 0 1 0 7 ⊢ Q ⟨⟩) :
    St A c 1536 1 8 7 0 7 7 7 0 0 0 7 ⊢ Wp c (k0_part33 (F := F) gM0 h0 gM1 h1 gM2 h2 gM3 h3 gM4 h4 gM5 h5 xM h6 sM h7 rM h8 aM h9 qM h10 oM h11
        cc0_scratch6 cc0_scratch7 cc0_scratch8 cc0_scratch9 c (k0_pay78 (ACC A c 1 6))) Q := by
  rw [k0_part33_eq_skeleton]; unfold k0_part33_skel
  simp only [semSignalWord, semWaitWord, Prog.lift, Prog.bind_op, Prog.bind_ret, Prog.pure_eq_ret]
  refine ld_part 6 (by decide) (by decide) 1 (off8_up 6 (by decide)) ?_
  refine any_a fun _ => ?_
  refine st_acc 1 7 8 8 rfl rfl rfl (pay79_eq _ _) ?_
  refine ld_acc 0 (n := 7) rfl rfl ?_
  refine any_out fun _ => ?_
  refine st_out 0 rfl rfl ?_
  refine ld_acc 1 (n := 7) rfl rfl ?_
  refine any_out fun _ => ?_
  refine st_out 1 rfl (pay81_eq _) ?_
  refine wait_agS 0 (by decide) rfl (by rfl) ?_
  exact wp_done h

theorem part34_spec {Q : PUnit → sProp (MT nD τ sig Unit (Elt F) ℕ UU ℕ)}
    (h : St A c 1536 1 8 8 2 7 7 7 0 5 0 7 ⊢ Q ⟨⟩) :
    St A c 1536 1 8 8 2 7 7 7 0 1 0 7 ⊢ Wp c (k0_part34 (F := F) gM0 h0 gM1 h1 gM2 h2 gM3 h3 gM4 h4 gM5 h5 xM h6 sM h7 rM h8 aM h9 qM h10 oM h11
        cc0_scratch6 cc0_scratch7 cc0_scratch8 cc0_scratch9 c) Q := by
  rw [k0_part34_eq_skeleton]; unfold k0_part34_skel
  simp only [semSignalWord, semWaitWord, Prog.lift, Prog.bind_op, Prog.bind_ret, Prog.pure_eq_ret]
  refine wait_agS 1 (by decide) rfl (by rfl) ?_
  refine wait_agS 2 (by decide) rfl (by rfl) ?_
  refine wait_agS 3 (by decide) rfl (by rfl) ?_
  refine wait_agS 4 (by decide) rfl (by rfl) ?_
  exact wp_done h

theorem part35_spec {Q : PUnit → sProp (MT nD τ sig Unit (Elt F) ℕ UU ℕ)}
    (h : St A c 1536 1 8 8 2 7 7 7 0 7 2 7 ⊢ Q ⟨⟩) :
    St A c 1536 1 8 8 2 7 7 7 0 5 0 7 ⊢ Wp c (k0_part35 (F := F) gM0 h0 gM1 h1 gM2 h2 gM3 h3 gM4 h4 gM5 h5 xM h6 sM h7 rM h8 aM h9 qM h10 oM h11
        cc0_scratch6 cc0_scratch7 cc0_scratch8 cc0_scratch9 c) Q := by
  rw [k0_part35_eq_skeleton]; unfold k0_part35_skel
  simp only [semSignalWord, semWaitWord, Prog.lift, Prog.bind_op, Prog.bind_ret, Prog.pure_eq_ret]
  refine wait_agS 5 (by decide) rfl (by rfl) ?_
  refine wait_agS 6 (by decide) rfl (by rfl) ?_
  refine wait_rsS 0 (by decide) rfl (by rfl) ?_
  refine wait_rsS 1 (by decide) rfl (by rfl) ?_
  exact wp_done h

theorem part36_spec {Q : PUnit → sProp (MT nD τ sig Unit (Elt F) ℕ UU ℕ)}
    (h : St A c 1536 1 8 8 2 7 7 7 0 7 6 7 ⊢ Q ⟨⟩) :
    St A c 1536 1 8 8 2 7 7 7 0 7 2 7 ⊢ Wp c (k0_part36 (F := F) gM0 h0 gM1 h1 gM2 h2 gM3 h3 gM4 h4 gM5 h5 xM h6 sM h7 rM h8 aM h9 qM h10 oM h11
        cc0_scratch6 cc0_scratch7 cc0_scratch8 cc0_scratch9 c) Q := by
  rw [k0_part36_eq_skeleton]; unfold k0_part36_skel
  simp only [semSignalWord, semWaitWord, Prog.lift, Prog.bind_op, Prog.bind_ret, Prog.pure_eq_ret]
  refine wait_rsS 2 (by decide) rfl (by rfl) ?_
  refine wait_rsS 3 (by decide) rfl (by rfl) ?_
  refine wait_rsS 4 (by decide) rfl (by rfl) ?_
  refine wait_rsS 5 (by decide) rfl (by rfl) ?_
  exact wp_done h

end Parts

end Cert.KernelIdeal.Run
-- ==== Proof.KernelIdeal.Body.lean ====
/-
# The body on one device

From the state a device is in after its launch, through the body's thirty-six parts, to the state in which every copy has
arrived and every copy sent has been read.
-/
module

public import proofs.«01_k».proof.Proof.KernelIdeal.Parts

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable {A : Args F} {c : Dev nD}

/-! ## What the barrier's wait leads to -/

/-- What the barrier leaves alone: the duties of the copies to be sent, what is expected of the copies to come, and the buffer
    the second exchange sends from. -/
def Pre (A : Args F) (c : Dev nD) : sProp 𝕄 :=
  iprop(bigSep Finset.univ (fun k : Fin 7 => iprop(atPos ER (cell c (.agS k)) 0 ∅ 0 ∗ dutyTok ER (cell c (.agS k)) 0 0
        ∗ dutyTok ER (cell (up c k.val) (.agR c)) 0 0))
    ∗ bigSep Finset.univ (RVm A c 0)
    ∗ bigSep Finset.univ (fun k : Fin 7 => iprop(pts fullShare c sM (set7 k) (fun i : S7x2x512x128.Idx => k.val = 0 ∧ (i 1).val < 0) (DS A c)
        ∗ atPos ER (cell c (.rsS k)) 0 ∅ 0 ∗ dutyTok ER (cell c (.rsS k)) 0 0 ∗ dutyTok ER (cell (dn c k.val) (.rsR c)) 0 0))
    ∗ bigSep Finset.univ (ACm A c 0) ∗ Aside (F := F) c)

/-- The seven steps, counted from the other end. -/
def flip7 : Fin 7 ≃ Fin 7 := ⟨rev, rev, rev_rev, rev_rev⟩

/-- The slots handed over by the seven other devices, in the order of each exchange. -/
theorem handed_split : bigSep Finset.univ (fun j : Fin 7 => handed (F := F) (up c j.val) c)
    ⊢ iprop(bigSep Finset.univ (fun k : Fin 7 => iprop(∃ f, xPts (F := F) (up c k.val) c fullShare f))
        ∗ bigSep Finset.univ (fun k : Fin 7 => iprop(∃ f, rPts (F := F) (dn c k.val) c f))) := by
  have e : (bigSep Finset.univ (fun k : Fin 7 => iprop(∃ f, rPts (F := F) (dn c k.val) c f)))
      = bigSep Finset.univ (fun j : Fin 7 => iprop(∃ f, rPts (F := F) (up c j.val) c f)) := by
    refine (BI.bigSep_univ_equiv flip7 (fun k : Fin 7 => iprop(∃ f, rPts (F := F) (dn c k.val) c f))).trans (BI.bigSep_congr fun j _ => ?_)
    rw [show dn c (flip7 j).val = up c j.val from (up_eq_dn c j).symm]
  rw [e, ← bigSep_sep']
  exact BI.bigSep_mono fun j _ => by
    show handed (F := F) (up c j.val) c ⊢ _
    unfold handed; iintro H; iexact H

/-- The device's own slot, whole, is dealt into what it keeps and what each copy reads. -/
theorem own_split : pts fullShare c xM (set8 c) (fun i : S8x2x512x128.Idx => (i 1).val < 2) (XA A)
    ⊢ iprop(pts (shareDrop fullShare 7) c xM (set8 c) (fun i : S8x2x512x128.Idx => (i 1).val < 2) (XA A)
        ∗ bigSep Finset.univ (fun k : Fin 7 => xPts c c (shareTok fullShare 7 k) (XA A))) := by
  refine BIBase.Entails.trans (pts_full fun i _ => (i 1).isLt) ?_
  refine BIBase.Entails.trans (Transfers.pointsTo_toks_split _ 7) ?_
  iintro ⟨H, HT⟩
  isplitl [H]
  · iapply (pts_intro fun _ _ _ => rfl); iexact H
  · iexact HT

theorem enter : iprop(Me A c fullShare 2 0 0 0 0 0 ∗ Core A c 7 0 0 ∗ B2 (F := F) c ∗ Pre A c) ⊢ St A c 0 0 0 0 0 0 0 0 0 0 0 0 := by
  unfold Me B2 Pre
  iintro ⟨⟨G0, G1, G2, G3, G4, G5, HQ, HO, HA, HX⟩, HC, ⟨HH, Hbar⟩, HP, HR, HS, HN, HZ⟩
  ihave HX2 := own_split $$ HX
  icases HX2 with ⟨HX, HT⟩
  ihave HH2 := handed_split $$ HH
  icases HH2 with ⟨HH, HK⟩
  unfold St Me Pr
  isplitl [G0 G1 G2 G3 G4 G5 HQ HO HA HX]
  · iframe
  isplitl [HC]; · iexact HC
  isplitl [HT HH HP]
  · have e : bigSep Finset.univ (AGm A c 0 0) = iprop(bigSep Finset.univ (fun k : Fin 7 => xPts c c (shareTok fullShare 7 k) (XA A))
        ∗ bigSep Finset.univ (fun k : Fin 7 => iprop(∃ f, xPts (F := F) (up c k.val) c fullShare f))
        ∗ bigSep Finset.univ (fun k : Fin 7 => iprop(atPos ER (cell c (.agS k)) 0 ∅ 0 ∗ dutyTok ER (cell c (.agS k)) 0 0
          ∗ dutyTok ER (cell (up c k.val) (.agR c)) 0 0))) := by
      rw [← bigSep_sep', ← bigSep_sep']; rfl
    iapply (BIBase.Entails.of_eq e.symm)
    isplitl [HT]; · iexact HT
    isplitl [HH]; · iexact HH
    iexact HP
  isplitl [HR]; · iexact HR
  isplitl [HS HK]
  · have e : bigSep Finset.univ (fun k : Fin 7 => iprop((∃ f, rPts (F := F) (dn c k.val) c f) ∗ pts fullShare c sM (set7 k) (fun i : S7x2x512x128.Idx => k.val = 0 ∧ (i 1).val < 0) (DS A c)
          ∗ atPos ER (cell c (.rsS k)) 0 ∅ 0 ∗ dutyTok ER (cell c (.rsS k)) 0 0 ∗ dutyTok ER (cell (dn c k.val) (.rsR c)) 0 0))
        ⊢ bigSep Finset.univ (RSm A c 0 0 0) := by
      refine BI.bigSep_mono fun k _ => ?_
      show _ ⊢ iprop(pts fullShare c sM (set7 k) (fun i : S7x2x512x128.Idx => k.val = 0 ∧ (i 1).val < 0) (DS A c) ∗ (∃ f, rPts (dn c k.val) c f)
        ∗ atPos ER (cell c (.rsS k)) 0 ∅ 0 ∗ dutyTok ER (cell c (.rsS k)) 0 0 ∗ dutyTok ER (cell (dn c k.val) (.rsR c)) 0 0)
      iintro ⟨H1, H2, H3⟩
      isplitl [H2]; · iexact H2
      isplitl [H1]; · iexact H1
      iexact H3
    iapply e
    iapply (BIBase.Entails.of_eq (bigSep_sep' _ _ _).symm)
    isplitl [HK]; · iexact HK
    iexact HS
  isplitl [HN]; · iexact HN
  isplitl [Hbar]; · iexact Hbar
  iexact HZ

section Run

variable {h0 : gM0.IsWhole} {h1 : gM1.IsWhole} {h2 : gM2.IsWhole} {h3 : gM3.IsWhole} {h4 : gM4.IsWhole} {h5 : gM5.IsWhole}
  {h6 : xM.IsWhole} {h7 : sM.IsWhole} {h8 : rM.IsWhole} {h9 : aM.IsWhole} {h10 : qM.IsWhole} {h11 : oM.IsWhole}

set_option maxHeartbeats 4000000 in
theorem body_run {Q : PUnit → sProp (MT nD τ sig Unit (Elt F) ℕ UU ℕ)} (h : St A c 1536 1 8 8 2 7 7 7 0 7 7 7 ⊢ |={Set.univ}=> Q ⟨⟩) :
    iprop(Me A c fullShare 0 0 0 0 0 0 ∗ Core A c 0 0 0 ∗ B1 (F := F) c 0 ∗ Pre A c)
      ⊢ Wp c (cc0_body (F := F) gM0 h0 gM1 h1 gM2 h2 gM3 h3 gM4 h4 gM5 h5 xM h6 sM h7 rM h8 aM h9 qM h10 oM h11
        cc0_scratch6 cc0_scratch7 cc0_scratch8 cc0_scratch9) Q := by
  rw [cc0_body_eq_skeleton]; unfold cc0_body_skel
  refine wp_seq (part1_spec (fun _ _ _ => ?_))
  refine wp_seq (part2_spec ?_)
  refine BIBase.Entails.trans enter ?_
  refine wp_seq (part3_spec ?_)
  refine wp_seq (part4_spec ?_)
  refine wp_seq (part5_spec ?_)
  refine wp_seq (part6_spec ?_)
  refine wp_seq (part7_spec ?_)
  refine wp_seq (part8_spec (fun _ => ?_))
  refine wp_seq (part9_spec ?_)
  refine wp_seq (part10_spec (fun _ => ?_))
  refine wp_seq (part11_spec ?_)
  refine wp_seq (part12_spec ?_)
  refine wp_seq (part13_spec (fun _ => ?_))
  refine wp_seq (part14_spec ?_)
  refine wp_seq (part15_spec (fun _ => ?_))
  refine wp_seq (part16_spec ?_)
  refine wp_seq (part17_spec ?_)
  refine wp_seq (part18_spec (fun _ => ?_))
  refine wp_seq (part19_spec ?_)
  refine wp_seq (part20_spec (fun _ _ => ?_))
  refine wp_seq (part21_spec ?_)
  refine wp_seq (part22_spec ?_)
  refine wp_seq (part23_spec (fun _ => ?_))
  refine wp_seq (part24_spec ?_)
  refine wp_seq (part25_spec (fun _ => ?_))
  refine wp_seq (part26_spec ?_)
  refine wp_seq (part27_spec ?_)
  refine wp_seq (part28_spec ?_)
  refine wp_seq (part29_spec ?_)
  refine wp_seq (part30_spec ?_)
  refine wp_seq (part31_spec ?_)
  refine wp_seq (part32_spec ?_)
  refine wp_seq (part33_spec ?_)
  refine wp_seq (part34_spec ?_)
  refine wp_seq (part35_spec ?_)
  refine wp_seq (part36_spec ?_)
  simp only [Prog.lift, Prog.bind_op, Prog.bind_ret, Prog.pure_eq_ret]
  refine wait_rsS 6 (by decide) rfl (by rfl) ?_
  rw [Wp, wp_ret]; exact h

end Run

end Cert.KernelIdeal.Run
-- ==== Proof.KernelIdeal.Ends.lean ====
/-
# Where the body starts and where it ends

The launch's buffers are cut into the slots the exchanges move, and put together again at the end, when each cell is closed.
-/
module

public import proofs.«01_k».proof.Proof.KernelIdeal.Body

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable {A : Args F} {c : Dev nD}

/-! ## All cells, all slots -/

/-- A family over the devices is the member of one of them and the members of the seven others, counted upwards -/
theorem dev_up (c : Dev nD) (Φ : Dev nD → sProp 𝕄) :
    bigSep Finset.univ Φ = iprop(Φ c ∗ bigSep Finset.univ (fun k : Fin 7 => Φ (up c k.val))) := by
  have e : Finset.univ.erase c = Finset.univ.map ⟨fun k : Fin 7 => up c k.val, fun _ _ h => up_inj c h⟩ := by revert c; decide
  rw [BI.bigSep_erase (Finset.mem_univ c), e, BI.bigSep_map]; rfl
/-- or downwards. -/
theorem dev_dn (c : Dev nD) (Φ : Dev nD → sProp 𝕄) :
    bigSep Finset.univ Φ = iprop(Φ c ∗ bigSep Finset.univ (fun k : Fin 7 => Φ (dn c k.val))) := by
  have e : Finset.univ.erase c = Finset.univ.map ⟨fun k : Fin 7 => dn c k.val, fun _ _ h => dn_inj c h⟩ := by revert c; decide
  rw [BI.bigSep_erase (Finset.mem_univ c), e, BI.bigSep_map]; rfl

/-- The kernel's own semaphores, by the cell each is. -/
def place : Fin 7 ⊕ Dev nD ⊕ Fin 7 ⊕ Dev nD → Fin 30
  | .inl k => ⟨k.val, by omega⟩
  | .inr (.inl s) => ⟨7 + s.val, by have : s.val < 8 := s.isLt; omega⟩
  | .inr (.inr (.inl k)) => ⟨15 + k.val, by omega⟩
  | .inr (.inr (.inr s)) => ⟨22 + s.val, by have : s.val < 8 := s.isLt; omega⟩
theorem place_bij : Function.Bijective place := by decide

theorem own_cells (X : SemLoc sig → sProp 𝕄) : bigSep Finset.univ (fun i : Fin 30 => X (osem i))
    = iprop(bigSep Finset.univ (fun k : Fin 7 => X (sem (.agS k))) ∗ bigSep Finset.univ (fun s : Dev nD => X (sem (.agR s)))
      ∗ bigSep Finset.univ (fun k : Fin 7 => X (sem (.rsS k))) ∗ bigSep Finset.univ (fun s : Dev nD => X (sem (.rsR s)))) := by
  rw [BI.bigSep_univ_equiv (Equiv.ofBijective place place_bij), BI.bigSep_univ_sum, BI.bigSep_univ_sum, BI.bigSep_univ_sum]
  have e1 : ∀ k, osem (place (.inl k)) = sem (.agS k) := by decide
  have e2 : ∀ s, osem (place (.inr (.inl s))) = sem (.agR s) := by decide
  have e3 : ∀ k, osem (place (.inr (.inr (.inl k)))) = sem (.rsS k) := by decide
  have e4 : ∀ s, osem (place (.inr (.inr (.inr s)))) = sem (.rsR s) := by decide
  simp only [Equiv.ofBijective_apply, e1, e2, e3, e4]
  rfl

theorem csem_succ (i : Fin 30) : csem i.castSucc = osem i := by revert i; decide
theorem all_cells (X : SemLoc sig → sProp 𝕄) : bigSep Finset.univ (fun i : Fin 31 => X (csem i))
    = iprop(X (sem .bar) ∗ bigSep Finset.univ (fun i : Fin 30 => X (osem i))) := by
  have e : Finset.univ.erase (Fin.last 30) = Finset.univ.map ⟨Fin.castSucc, Fin.castSucc_injective 30⟩ := by decide
  rw [BI.bigSep_erase (Finset.mem_univ (Fin.last 30)), e, BI.bigSep_map]
  simp only [Function.Embedding.coeFn_mk, csem_succ]
  rfl

/-! ## The cells closed -/

theorem close_later (k : Cell) : iprop(records A ∗ atPos ER (cell c k) 1 ∅ 0) ⊢ |={Set.univ}=> semVal (cell c k) 0 := by
  iintro ⟨HR, Hat⟩
  ihave HI := (records_inv A c k) $$ HR
  unfold inv
  icases HI with ⟨⟨%κ, HI⟩, -⟩
  iapply (Rounds.cell_close ER (Rd A) (Set.mem_univ κ) (fun h => h) (R := 1) (duties_later A (cell c k)))
  isplitl [HI]; · iexact HI
  iexact Hat

theorem no_duties (k : Cell) (h : duties c k = ∅) (r : ℕ) : (Rd A).duties (cell c k) r = ∅ := by
  rcases Nat.eq_zero_or_pos r with rfl | hr
  · rw [duties_eq, h]
  · exact duties_later A _ r hr
theorem close_unused (k : Cell) (h : duties c k = ∅) : iprop(records A ∗ atPos ER (cell c k) 0 ∅ 0) ⊢ |={Set.univ}=> semVal (cell c k) 0 := by
  iintro ⟨HR, Hat⟩
  ihave HI := (records_inv A c k) $$ HR
  unfold inv
  icases HI with ⟨⟨%κ, HI⟩, -⟩
  iapply (Rounds.cell_close ER (Rd A) (Set.mem_univ κ) (fun h => h) (R := 0) (fun r _ => no_duties k h r))
  isplitl [HI]; · iexact HI
  iexact Hat
theorem close_seven (f : Fin 7 → Cell) : iprop(records A ∗ bigSep Finset.univ (fun k => atPos ER (cell c (f k)) 1 ∅ 0))
    ⊢ |={Set.univ}=> bigSep Finset.univ (fun k => (semVal (cell c (f k)) 0 : sProp 𝕄)) := by
  refine BIBase.Entails.trans ?_ (bigSep_fupd _ _)
  refine bigSep_with_persistent (S := Finset.univ) (R := records A) (Φ := fun k => atPos ER (cell c (f k)) 1 ∅ 0) (fun k _ => ?_)
  exact close_later (A := A) (f k)

/-! ## Buffers cut into slots, and joined -/

theorem slots_join {T : Type} [Fintype T] [DecidableEq T] {ℓ : Loc nD τ sig} (K : T → Finset (Idx ℓ)) (hc : Finset.univ.biUnion K = Finset.univ)
    (hd : ∀ s t, s ≠ t → Disjoint (K s) (K t)) [Inhabited (Buf (Elt F) ℓ)] :
    bigSep Finset.univ (fun t => iprop(∃ f : Buf (Elt F) ℓ, (ℓ ↦[K t]{fullShare} f : sProp 𝕄))) ⊢ iprop(∃ f : Buf (Elt F) ℓ, (ℓ ↦{fullShare} f : sProp 𝕄)) := by
  refine BIBase.Entails.trans (BI.bigSep_exists_pi _ _) ?_
  iintro ⟨%fs, H⟩
  ihave H2 := (pointsTo_biUnion_join Finset.univ K fs default (fun s _ t _ h => hd s t h)) $$ H
  icases H2 with ⟨%g, -, H⟩
  iexists g
  rw [hc]
  iexact H

theorem x_cut (f : Vec F S8x2x512x128 .bf16) : (((c : Thread nD τ).loc cc0_scratch0) ↦{fullShare} f : sProp 𝕄)
    ⊢ iprop(xPts c c fullShare f ∗ bigSep Finset.univ (fun k : Fin 7 => xPts c (up c k.val) fullShare f)) := by
  rw [← dev_up c (fun s => xPts c s fullShare f)]
  have h := pointsTo_biUnion (Name := ℕ) (U := UU) (Lvl := ℕ) (Ix := Unit) (Val := Elt F) (ℓ := (c : Thread nD τ).loc cc0_scratch0) (q := fullShare) (f := f) Finset.univ set8 (fun s _ t _ h => set8_disj h)
  rw [set8_cover] at h
  exact BIBase.Entails.of_eq h
theorem r_cut (f : Vec F S8x2x512x128 .bf16) : (((c : Thread nD τ).loc cc0_scratch2) ↦{fullShare} f : sProp 𝕄)
    ⊢ iprop(rPts c c f ∗ bigSep Finset.univ (fun k : Fin 7 => rPts c (up c k.val) f)) := by
  rw [← dev_up c (fun s => rPts c s f)]
  have h := pointsTo_biUnion (Name := ℕ) (U := UU) (Lvl := ℕ) (Ix := Unit) (Val := Elt F) (ℓ := (c : Thread nD τ).loc cc0_scratch2) (q := fullShare) (f := f) Finset.univ set8 (fun s _ t _ h => set8_disj h)
  rw [set8_cover] at h
  exact BIBase.Entails.of_eq h
theorem s_cut (f : Vec F S7x2x512x128 .bf16) : (((c : Thread nD τ).loc cc0_scratch1) ↦{fullShare} f : sProp 𝕄)
    ⊢ bigSep Finset.univ (fun k : Fin 7 => sPts c k f) := by
  have h := pointsTo_biUnion (Name := ℕ) (U := UU) (Lvl := ℕ) (Ix := Unit) (Val := Elt F) (ℓ := (c : Thread nD τ).loc cc0_scratch1) (q := fullShare) (f := f) Finset.univ set7 (fun s _ t _ h => set7_disj h)
  rw [set7_cover] at h
  exact BIBase.Entails.of_eq h

theorem x_join : iprop((∃ f, xPts (F := F) c c fullShare f) ∗ bigSep Finset.univ (fun k : Fin 7 => iprop(∃ f, xPts (F := F) c (dn c k.val) fullShare f)))
    ⊢ iprop(∃ f : Buf (Elt F) ((c : Thread nD τ).loc cc0_scratch0), (((c : Thread nD τ).loc cc0_scratch0) ↦{fullShare} f : sProp 𝕄)) := by
  rw [← dev_dn c (fun s => iprop(∃ f, xPts c s fullShare f))]
  exact slots_join (ℓ := (c : Thread nD τ).loc cc0_scratch0) set8 set8_cover fun s t h => set8_disj h
theorem r_join : iprop((∃ f, rPts (F := F) c c f) ∗ bigSep Finset.univ (fun k : Fin 7 => iprop(∃ f, rPts (F := F) c (up c k.val) f)))
    ⊢ iprop(∃ f : Buf (Elt F) ((c : Thread nD τ).loc cc0_scratch2), (((c : Thread nD τ).loc cc0_scratch2) ↦{fullShare} f : sProp 𝕄)) := by
  rw [← dev_up c (fun s => iprop(∃ f, rPts c s f))]
  exact slots_join (ℓ := (c : Thread nD τ).loc cc0_scratch2) set8 set8_cover fun s t h => set8_disj h
theorem s_join : bigSep Finset.univ (fun k : Fin 7 => iprop(∃ f, sPts (F := F) c k f))
    ⊢ iprop(∃ f : Buf (Elt F) ((c : Thread nD τ).loc cc0_scratch1), (((c : Thread nD τ).loc cc0_scratch1) ↦{fullShare} f : sProp 𝕄)) :=
  slots_join (ℓ := (c : Thread nD τ).loc cc0_scratch1) set7 set7_cover fun s t h => set7_disj h

theorem handed_join {f g : Vec F S8x2x512x128 .bf16} :
    iprop(bigSep Finset.univ (fun k : Fin 7 => xPts c (up c k.val) fullShare f) ∗ bigSep Finset.univ (fun k : Fin 7 => rPts c (up c k.val) g))
      ⊢ bigSep Finset.univ (fun k : Fin 7 => handed (F := F) c (up c k.val)) := by
  rw [← bigSep_sep']
  refine BI.bigSep_mono fun k _ => ?_
  show iprop(xPts c (up c k.val) fullShare f ∗ rPts c (up c k.val) g) ⊢ handed c (up c k.val)
  unfold handed
  iintro ⟨H, K⟩
  isplitl [H]
  · iexists f; iexact H
  · iexists g; iexact K

end Cert.KernelIdeal.Run
-- ==== Proof.KernelIdeal.Whole.lean ====
/-
# The body from the launch's state to the region's end

What a device holds when its body starts, and what it gives back when its body ends.
-/
module

public import proofs.«01_k».proof.Proof.KernelIdeal.Ends

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (A : Args F) (c : Dev nD)

/-- The duties the device's signals and copies pay. -/
def Toks : sProp 𝕄 :=
  iprop(bigSep Finset.univ (fun k : Fin 7 => dutyTok ER (cell (up c k.val) .bar) 0 (rev k))
    ∗ bigSep Finset.univ (fun k : Fin 7 => dutyTok ER (cell c (.agS k)) 0 0)
    ∗ bigSep Finset.univ (fun k : Fin 7 => dutyTok ER (cell (up c k.val) (.agR c)) 0 0)
    ∗ bigSep Finset.univ (fun k : Fin 7 => dutyTok ER (cell c (.rsS k)) 0 0)
    ∗ bigSep Finset.univ (fun k : Fin 7 => dutyTok ER (cell (dn c k.val) (.rsR c)) 0 0))
/-- What the others will pay into the device's cells. -/
def Due : sProp 𝕄 :=
  iprop(cred (tallyAt (cell c .bar) () 7) ∗ bigSep Finset.univ (fun k : Fin 7 => cred (tallyAt (cell c (.agR (dn c k.val))) () N))
    ∗ bigSep Finset.univ (fun k : Fin 7 => cred (tallyAt (cell c (.rsR (up c k.val))) () N)))
/-- The device's cells, each at its first round. -/
def Pos : sProp 𝕄 := bigSep Finset.univ (fun i : Fin 31 => atPos ER (kcell (c, i)) 0 ∅ 0)
/-- The device's cells, each at zero and done with. -/
def Zero : sProp 𝕄 := bigSep Finset.univ (fun i : Fin 31 => semVal (kcell (c, i)) 0)

variable {A c}

theorem pos_cut : Pos (F := F) c ⊢ iprop(atPos ER (cell c .bar) 0 ∅ 0
    ∗ bigSep Finset.univ (fun k : Fin 7 => atPos ER (cell c (.agS k)) 0 ∅ 0)
    ∗ (atPos ER (cell c (.agR c)) 0 ∅ 0 ∗ bigSep Finset.univ (fun k : Fin 7 => atPos ER (cell c (.agR (dn c k.val))) 0 ∅ 0))
    ∗ bigSep Finset.univ (fun k : Fin 7 => atPos ER (cell c (.rsS k)) 0 ∅ 0)
    ∗ (atPos ER (cell c (.rsR c)) 0 ∅ 0 ∗ bigSep Finset.univ (fun k : Fin 7 => atPos ER (cell c (.rsR (up c k.val))) 0 ∅ 0))) := by
  rw [← dev_dn c (fun s => atPos ER (cell c (.agR s)) 0 ∅ 0), ← dev_up c (fun s => atPos ER (cell c (.rsR s)) 0 ∅ 0)]
  have h := all_cells (F := F) (fun sm => atPos ER ((c : Thread nD τ), sm) 0 ∅ 0)
  rw [own_cells (F := F) (fun sm => atPos ER ((c : Thread nD τ), sm) 0 ∅ 0)] at h
  exact BIBase.Entails.of_eq h

theorem zero_join : iprop(semVal (cell c .bar) 0
    ∗ bigSep Finset.univ (fun k : Fin 7 => (semVal (cell c (.agS k)) 0 : sProp 𝕄))
    ∗ (semVal (cell c (.agR c)) 0 ∗ bigSep Finset.univ (fun k : Fin 7 => semVal (cell c (.agR (dn c k.val))) 0))
    ∗ bigSep Finset.univ (fun k : Fin 7 => semVal (cell c (.rsS k)) 0)
    ∗ (semVal (cell c (.rsR c)) 0 ∗ bigSep Finset.univ (fun k : Fin 7 => semVal (cell c (.rsR (up c k.val))) 0))) ⊢ Zero (F := F) c := by
  rw [← dev_dn c (fun s => semVal (cell c (.agR s)) 0), ← dev_up c (fun s => semVal (cell c (.rsR s)) 0)]
  have h := all_cells (F := F) (fun sm => semVal ((c : Thread nD τ), sm) 0)
  rw [own_cells (F := F) (fun sm => semVal ((c : Thread nD τ), sm) 0)] at h
  exact BIBase.Entails.of_eq h.symm

/-- What a device starts with, besides its windows. -/
def Init (A : Args F) (c : Dev nD) : sProp 𝕄 :=
  iprop(Core A c 0 0 0 ∗ Toks (F := F) c ∗ Due (F := F) c ∗ Pos (F := F) c ∗ Pipeline.scopedRest spec0 c)
/-- What it ends with. -/
def Fini (A : Args F) (c : Dev nD) : sProp 𝕄 :=
  iprop(Core A c 7 7 7 ∗ Zero (F := F) c ∗ Pipeline.scopedRest spec0 c)
/-- The windows' buffers, the result's holding `f`. -/
def Wins (A : Args F) (c : Dev nD) (f : Vec F S2x128x512 .f32) : sProp 𝕄 :=
  iprop((gM0.view.loc (c : Thread nD τ) ↦{fullShare} A.x c) ∗ (gM1.view.loc (c : Thread nD τ) ↦{fullShare} A.wq c)
    ∗ (gM2.view.loc (c : Thread nD τ) ↦{fullShare} A.wo c) ∗ (gM3.view.loc (c : Thread nD τ) ↦{fullShare} A.wk c)
    ∗ (gM4.view.loc (c : Thread nD τ) ↦{fullShare} A.wv c) ∗ (gM5.view.loc (c : Thread nD τ) ↦{fullShare} f))

theorem pts_none {s : Shape} {e : EltTy} {m : Memref sig .tc .vmem s e} {P : Idx (m.view.loc (c : Thread nD τ)) → Prop}
    {f g : Buf (Elt F) (m.view.loc (c : Thread nD τ))} {S : Finset (Idx (m.view.loc (c : Thread nD τ)))} (h : ∀ i, ¬ P i) :
    (m.view.loc (c : Thread nD τ) ↦[S]{fullShare} f : sProp 𝕄) ⊢ pts fullShare c m S P g :=
  pts_intro fun i _ hi => absurd hi (h i)

theorem s_begin {f : Vec F S7x2x512x128 .bf16} (k : Fin 7) : sPts c k f
    ⊢ pts fullShare c sM (set7 k) (fun i : S7x2x512x128.Idx => k.val = 0 ∧ (i 1).val < 0) (DS A c) :=
  pts_none (m := sM) fun i h => Nat.not_lt_zero _ h.2

theorem s_begins {f : Vec F S7x2x512x128 .bf16} : bigSep Finset.univ (fun k : Fin 7 => sPts c k f)
    ⊢ bigSep Finset.univ (fun k : Fin 7 => pts fullShare c sM (set7 k) (fun i : S7x2x512x128.Idx => k.val = 0 ∧ (i 1).val < 0) (DS A c)) :=
  BI.bigSep_mono fun k _ => s_begin k

theorem x_begin {f : Vec F S8x2x512x128 .bf16} : xPts c c fullShare f
    ⊢ pts fullShare c xM (set8 c) (fun i : S8x2x512x128.Idx => (i 1).val < 0) (XA A) :=
  pts_none (m := xM) fun i h => Nat.not_lt_zero _ h

/-- A device's first state. -/
theorem start {f : Vec F S2x128x512 .f32} : iprop(Wins A c f ∗ Init A c)
    ⊢ iprop(Me A c fullShare 0 0 0 0 0 0 ∗ Core A c 0 0 0 ∗ B1 (F := F) c 0 ∗ Pre A c) := by
  unfold Wins Init Toks Due
  iintro ⟨⟨W0, W1, W2, W3, W4, W5⟩, HC, ⟨T1, T2, T3, T4, T5⟩, ⟨D1, D2, D3⟩, HP, HS⟩
  ihave HS2 := (BIBase.Entails.of_eq (scopedRest0_eq (Ix := Unit) (Val := Elt F) (Name := ℕ) (U := UU) (Lvl := ℕ) c)) $$ HS
  icases HS2 with ⟨⟨%f0, S0⟩, ⟨%f1, S1⟩, ⟨%f2, S2⟩, ⟨%f3, S3⟩, ⟨%f4, S4⟩, ⟨%f5, S5⟩⟩
  ihave HP2 := pos_cut $$ HP
  icases HP2 with ⟨P1, P2, ⟨P3, P4⟩, P5, P6, P7⟩
  ihave X := (x_cut f0) $$ S0
  icases X with ⟨X, XS⟩
  ihave R := (r_cut f2) $$ S2
  icases R with ⟨R, RS⟩
  ihave S := (s_cut f1) $$ S1
  unfold Me B1 Pre Aside
  isplitl [W0 W1 W2 W3 W4 W5 S3 S4 S5 X]
  · isplitl [W0]; · iapply (pts_intro (m := gM0) fun _ _ _ => rfl); iexact W0
    isplitl [W1]; · iapply (pts_intro (m := gM1) fun _ _ _ => rfl); iexact W1
    isplitl [W2]; · iapply (pts_intro (m := gM2) fun _ _ _ => rfl); iexact W2
    isplitl [W3]; · iapply (pts_intro (m := gM3) fun _ _ _ => rfl); iexact W3
    isplitl [W4]; · iapply (pts_intro (m := gM4) fun _ _ _ => rfl); iexact W4
    isplitl [W5]; · iapply (pts_none (m := gM5) fun i h => Nat.not_lt_zero _ h); iexact W5
    isplitl [S4]; · iapply (pts_none (m := qM) fun i h => Nat.not_lt_zero _ h); iexact S4
    isplitl [S5]; · iapply (pts_none (m := oM) fun i h => Nat.not_lt_zero _ h); iexact S5
    isplitl [S3]; · iapply (pts_none (m := aM) fun i h => by rw [ite_self] at h; exact Nat.not_lt_zero _ h); iexact S3
    iapply x_begin; iexact X
  isplitl [HC]; · iexact HC
  isplitl [T1 XS RS D1 P1]
  · isplitl [T1 XS RS]
    · ihave H := handed_join $$ [XS RS]
      · isplitl [XS]; · iexact XS
        iexact RS
      have e : iprop(bigSep Finset.univ (fun k : Fin 7 => dutyTok ER (cell (up c k.val) .bar) 0 (rev k))
          ∗ bigSep Finset.univ (fun k : Fin 7 => handed (F := F) c (up c k.val))) = bigSep Finset.univ (B1m (F := F) c 0) := by
        rw [← bigSep_sep']; rfl
      iapply (BIBase.Entails.of_eq e)
      isplitl [T1]; · iexact T1
      iexact H
    isplitl [D1]; · iexact D1
    iexact P1
  isplitl [P2 T2 T3]
  · rw [bigSep_sep', bigSep_sep']
    isplitl [P2]; · iexact P2
    isplitl [T2]; · iexact T2
    iexact T3
  isplitl [D2 P4]
  · have e : iprop(bigSep Finset.univ (fun k : Fin 7 => cred (tallyAt (cell c (.agR (dn c k.val))) () N))
        ∗ bigSep Finset.univ (fun k : Fin 7 => atPos ER (cell c (.agR (dn c k.val))) 0 ∅ 0)) = bigSep Finset.univ (RVm A c 0) := by
      rw [← bigSep_sep']; rfl
    iapply (BIBase.Entails.of_eq e)
    isplitl [D2]; · iexact D2
    iexact P4
  isplitl [S P5 T4 T5]
  · rw [bigSep_sep', bigSep_sep', bigSep_sep']
    isplitl [S]; · iapply s_begins; iexact S
    isplitl [P5]; · iexact P5
    isplitl [T4]; · iexact T4
    iexact T5
  isplitl [D3 P7]
  · have e : iprop(bigSep Finset.univ (fun k : Fin 7 => cred (tallyAt (cell c (.rsR (up c k.val))) () N))
        ∗ bigSep Finset.univ (fun k : Fin 7 => atPos ER (cell c (.rsR (up c k.val))) 0 ∅ 0)) = bigSep Finset.univ (ACm A c 0) := by
      rw [← bigSep_sep']; rfl
    iapply (BIBase.Entails.of_eq e)
    isplitl [D3]; · iexact D3
    iexact P7
  isplitl [R]; · iexists f2; iexact R
  isplitl [P3]; · iexact P3
  iexact P6

theorem fam_some {q : PosShare TreeShare} {T : Fin 7 → sProp (MT nD τ sig Unit (Elt F) ℕ UU ℕ)} {U V : Fin 7 → sProp (MT nD τ sig Unit (Elt F) ℕ UU ℕ)}
    (h : ∀ k, T k ⊢ iprop(U k ∗ V k)) : bigSep Finset.univ T ⊢ iprop(bigSep Finset.univ U ∗ bigSep Finset.univ V) := by
  rw [← bigSep_sep']
  exact BI.bigSep_mono fun k _ => h k

theorem pts_any {s : Shape} {e : EltTy} {m : Memref sig .tc .vmem s e} {P : Idx (m.view.loc (c : Thread nD τ)) → Prop} {q : PosShare TreeShare}
    {g : Buf (Elt F) (m.view.loc (c : Thread nD τ))} {S : Finset (Idx (m.view.loc (c : Thread nD τ)))} :
    pts q c m S P g ⊢ iprop(∃ f : Buf (Elt F) (m.view.loc (c : Thread nD τ)), (m.view.loc (c : Thread nD τ) ↦[S]{q} f : sProp 𝕄)) := by
  unfold pts
  iintro ⟨%f, -, H⟩
  iexists f; iexact H

theorem ag_end : bigSep Finset.univ (AGm A c 7 7) ⊢ iprop(bigSep Finset.univ (fun k : Fin 7 => xPts c c (shareTok fullShare 7 k) (XA A))
    ∗ bigSep Finset.univ (fun k : Fin 7 => atPos ER (cell c (.agS k)) 1 ∅ 0)) :=
  fam_some (q := fullShare) fun k => by unfold AGm; rw [if_pos k.isLt]
theorem rv_end : bigSep Finset.univ (RVm A c 7) ⊢ iprop(bigSep Finset.univ (fun k : Fin 7 => iprop(∃ f, xPts (F := F) c (dn c k.val) fullShare f))
    ∗ bigSep Finset.univ (fun k : Fin 7 => atPos ER (cell c (.agR (dn c k.val))) 1 ∅ 0)) :=
  fam_some (q := fullShare) fun k => by
    unfold RVm; rw [if_pos k.isLt]; iintro ⟨H, K⟩
    isplitl [H]; · iapply (pts_any (m := xM)); iexact H
    iexact K
theorem rs_end : bigSep Finset.univ (RSm A c 7 0 7) ⊢ iprop(bigSep Finset.univ (fun k : Fin 7 => iprop(∃ f, sPts (F := F) c k f))
    ∗ bigSep Finset.univ (fun k : Fin 7 => atPos ER (cell c (.rsS k)) 1 ∅ 0)) :=
  fam_some (q := fullShare) fun k => by
    unfold RSm; rw [if_pos k.isLt]; iintro ⟨H, K⟩
    isplitl [H]; · iexists DS A c; iexact H
    iexact K
theorem ac_end : bigSep Finset.univ (ACm A c 7) ⊢ iprop(bigSep Finset.univ (fun k : Fin 7 => iprop(∃ f, rPts (F := F) c (up c k.val) f))
    ∗ bigSep Finset.univ (fun k : Fin 7 => atPos ER (cell c (.rsR (up c k.val))) 1 ∅ 0)) :=
  fam_some (q := fullShare) fun k => by
    unfold ACm; rw [if_pos k.isLt]; iintro ⟨H, K⟩
    isplitl [H]; · iapply (pts_any (m := rM)); iexact H
    iexact K

theorem own_back : iprop((xM.view.loc (c : Thread nD τ) ↦[set8 c]{shareDrop fullShare 7} XA A)
      ∗ bigSep Finset.univ (fun k : Fin 7 => xPts c c (shareTok fullShare 7 k) (XA A))) ⊢ xPts c c fullShare (XA A) := by
  have h := Transfers.pointsTo_toks_join (Ix := Unit) (Val := Elt F) (Name := ℕ) (U := UU) (Lvl := ℕ) (ℓ := (c : Thread nD τ).loc cc0_scratch0)
    (S := set8 c) (f := XA A) fullShare 7
  unfold xPts
  exact h

theorem own_join : iprop(pts (shareDrop fullShare 7) c xM (set8 c) (fun i : S8x2x512x128.Idx => (i 1).val < 2) (XA A)
        ∗ bigSep Finset.univ (fun k : Fin 7 => xPts c c (shareTok fullShare 7 k) (XA A))) ⊢ iprop(∃ f, xPts (F := F) c c fullShare f) := by
  iintro ⟨H, K⟩
  ihave H2 := (pts_full (c := c) (m := xM) (S := set8 c) (P := fun i : S8x2x512x128.Idx => (i 1).val < 2) fun i _ => (i 1).isLt) $$ H
  iexists XA A
  iapply own_back
  isplitl [H2]; · iexact H2
  iexact K

/-- All the cells closed. -/
theorem close_all : iprop(records A ∗ atPos ER (cell c .bar) 1 ∅ 0
    ∗ bigSep Finset.univ (fun k : Fin 7 => atPos ER (cell c (.agS k)) 1 ∅ 0)
    ∗ (atPos ER (cell c (.agR c)) 0 ∅ 0 ∗ bigSep Finset.univ (fun k : Fin 7 => atPos ER (cell c (.agR (dn c k.val))) 1 ∅ 0))
    ∗ bigSep Finset.univ (fun k : Fin 7 => atPos ER (cell c (.rsS k)) 1 ∅ 0)
    ∗ (atPos ER (cell c (.rsR c)) 0 ∅ 0 ∗ bigSep Finset.univ (fun k : Fin 7 => atPos ER (cell c (.rsR (up c k.val))) 1 ∅ 0)))
    ⊢ |={Set.univ}=> Zero (F := F) c := by
  iintro ⟨#HR, P1, P2, ⟨P3, P4⟩, P5, P6, P7⟩
  imod (close_later (A := A) .bar) $$ [P1] with Z1
  · isplitr; · iexact HR
    iexact P1
  imod (close_seven (A := A) .agS) $$ [P2] with Z2
  · isplitr; · iexact HR
    iexact P2
  imod (close_unused (A := A) (.agR c) (if_pos rfl)) $$ [P3] with Z3
  · isplitr; · iexact HR
    iexact P3
  imod (close_seven (A := A) fun k => .agR (dn c k.val)) $$ [P4] with Z4
  · isplitr; · iexact HR
    iexact P4
  imod (close_seven (A := A) .rsS) $$ [P5] with Z5
  · isplitr; · iexact HR
    iexact P5
  imod (close_unused (A := A) (.rsR c) (if_pos rfl)) $$ [P6] with Z6
  · isplitr; · iexact HR
    iexact P6
  imod (close_seven (A := A) fun k => .rsR (up c k.val)) $$ [P7] with Z7
  · isplitr; · iexact HR
    iexact P7
  imodintro
  iapply zero_join
  isplitl [Z1]; · iexact Z1
  isplitl [Z2]; · iexact Z2
  isplitl [Z3 Z4]
  · isplitl [Z3]; · iexact Z3
    iexact Z4
  isplitl [Z5]; · iexact Z5
  isplitl [Z6]; · iexact Z6
  iexact Z7

/-- A device's last state. -/
theorem finish : St A c 1536 1 8 8 2 7 7 7 0 7 7 7 ⊢ |={Set.univ}=> iprop(Wins A c (OUT A c) ∗ Fini A c) := by
  unfold St Me Pr Core Aside
  iintro ⟨⟨G0, G1, G2, G3, G4, G5, HQ, HO, HA, HX⟩, ⟨#HR, HL, HW⟩, HT, HV, HS, HN, Hbar, ⟨⟨%f2, R⟩, P3, P6⟩⟩
  ihave HT2 := ag_end $$ HT
  icases HT2 with ⟨HT, P2⟩
  ihave HV2 := rv_end $$ HV
  icases HV2 with ⟨HV, P4⟩
  ihave HS2 := rs_end $$ HS
  icases HS2 with ⟨HS, P5⟩
  ihave HN2 := ac_end $$ HN
  icases HN2 with ⟨HN, P7⟩
  imod (close_all (A := A)) $$ [Hbar P2 P3 P4 P5 P6 P7] with HZ
  · isplitr; · iexact HR
    isplitl [Hbar]; · iexact Hbar
    isplitl [P2]; · iexact P2
    isplitl [P3 P4]
    · isplitl [P3]; · iexact P3
      iexact P4
    isplitl [P5]; · iexact P5
    isplitl [P6]; · iexact P6
    iexact P7
  ihave X := own_join $$ [HX HT]
  · isplitl [HX]; · iexact HX
    iexact HT
  ihave S0 := x_join $$ [X HV]
  · isplitl [X]; · iexact X
    iexact HV
  ihave S2 := r_join $$ [R HN]
  · isplitl [R]; · iexists f2; iexact R
    iexact HN
  ihave S1 := s_join $$ HS
  imodintro
  unfold Wins Fini Core
  isplitl [G0 G1 G2 G3 G4 G5]
  · isplitl [G0]; · iapply (pts_full (m := gM0) (P := fun _ => True) fun _ _ => trivial); iexact G0
    isplitl [G1]; · iapply (pts_full (m := gM1) (P := fun _ => True) fun _ _ => trivial); iexact G1
    isplitl [G2]; · iapply (pts_full (m := gM2) (P := fun _ => True) fun _ _ => trivial); iexact G2
    isplitl [G3]; · iapply (pts_full (m := gM3) (P := fun _ => True) fun _ _ => trivial); iexact G3
    isplitl [G4]; · iapply (pts_full (m := gM4) (P := fun _ => True) fun _ _ => trivial); iexact G4
    iapply (pts_full (c := c) (m := gM5) (S := Finset.univ) (P := fun i : S2x128x512.Idx => (i 0).val < 2) fun i _ => (i 0).isLt); iexact G5
  isplitl [HL HW]
  · isplitr; · iexact HR
    isplitl [HL]; · iexact HL
    iexact HW
  isplitl [HZ]; · iexact HZ
  iapply (BIBase.Entails.of_eq (scopedRest0_eq (Ix := Unit) (Val := Elt F) (Name := ℕ) (U := UU) (Lvl := ℕ) c).symm)
  isplitl [S0]; · iexact S0
  isplitl [S1]; · iexact S1
  isplitl [S2]; · iexact S2
  isplitl [HA]; · iapply (pts_any (m := aM)); iexact HA
  isplitl [HQ]; · iapply (pts_any (m := qM)); iexact HQ
  iapply (pts_any (m := oM)); iexact HO

/-- The body, from what a device starts with to what it ends with. -/
theorem body_whole {h0 : gM0.IsWhole} {h1 : gM1.IsWhole} {h2 : gM2.IsWhole} {h3 : gM3.IsWhole} {h4 : gM4.IsWhole} {h5 : gM5.IsWhole}
    {h6 : xM.IsWhole} {h7 : sM.IsWhole} {h8 : rM.IsWhole} {h9 : aM.IsWhole} {h10 : qM.IsWhole} {h11 : oM.IsWhole} {f : Vec F S2x128x512 .f32} :
    iprop(Wins A c f ∗ Init A c)
      ⊢ Wp c (cc0_body (F := F) gM0 h0 gM1 h1 gM2 h2 gM3 h3 gM4 h4 gM5 h5 xM h6 sM h7 rM h8 aM h9 qM h10 oM h11
        cc0_scratch6 cc0_scratch7 cc0_scratch8 cc0_scratch9) (fun _ => iprop(Wins A c (OUT A c) ∗ Fini A c)) :=
  BIBase.Entails.trans start (body_run finish)

end Cert.KernelIdeal.Run
-- ==== Proof.KernelIdeal.Funds.lean ====
/-
# What the launch deals each device

The tokens of every duty are made beside the cell they are owed to and then given to the device that pays them; the credit for
what the others owe is dealt to the device that waits for it; and every cell gets its invariant.
-/
module

public import proofs.«01_k».proof.Proof.KernelIdeal.Whole

public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## The devices shifted -/

/-- The devices, each moved up by `k + 1`. -/
def upE (k : Fin 7) : Dev nD ≃ Dev nD := ⟨fun d => up d k.val, fun d => dn d k.val, fun d => dn_up d k, fun d => up_dn d k⟩

/-- A family over devices and steps, each step's members counted from another device. -/
theorem shift_fam (e : Fin 7 → (Dev nD ≃ Dev nD)) (X Y : Dev nD → Fin 7 → sProp (MT nD τ sig Unit (Elt F) ℕ UU ℕ)) (h : ∀ k d, X (e k d) k = Y d k) :
    bigSep Finset.univ (fun c => bigSep Finset.univ (fun k => X c k)) = bigSep Finset.univ (fun c => bigSep Finset.univ (fun k => Y c k)) := by
  rw [BI.bigSep_univ_comm X, BI.bigSep_univ_comm Y]
  refine BI.bigSep_congr fun k _ => ?_
  rw [BI.bigSep_univ_equiv (e k)]
  exact BI.bigSep_congr fun d _ => h k d

/-! ## The tokens -/

theorem csem_inj : ∀ k k' : Fin 31, csem k = csem k' → k = k' := by decide
theorem kcell_inj : Function.Injective (kcell : Dev nD × Fin 31 → GSem nD τ sig) := by
  rintro ⟨c, k⟩ ⟨c', k'⟩ h
  have h1 : c = c' := congrArg (fun g : GSem nD τ sig => g.1.1) h
  have h2 : csem k = csem k' := congrArg Prod.snd h
  rw [h1, csem_inj k k' h2]
def ringCells : Finset (GSem nD τ sig) := Finset.univ.map ⟨kcell, kcell_inj⟩

/-- The duties of device `c`'s cells, seven of each of five kinds. -/
def duty (c : Dev nD) (i : Fin 5) (k : Fin 7) : Cell × Fin 7 := match i with
  | 0 => (.bar, k) | 1 => (.agS k, 0) | 2 => (.agR (dn c k.val), 0) | 3 => (.rsS k, 0) | 4 => (.rsR (up c k.val), 0)
theorem duty_inj (c : Dev nD) (i i' : Fin 5) (k k' : Fin 7) (h : duty c i k = duty c i' k') : i = i' ∧ k = k' := by
  fin_cases i <;> fin_cases i' <;> simp [duty] at h <;>
    first
    | exact ⟨rfl, h⟩
    | exact ⟨rfl, dn_inj c h⟩
    | exact ⟨rfl, up_inj c h⟩
abbrev tokOf (p : Dev nD × Fin 5 × Fin 7) : GSem nD τ sig × ℕ × Fin 7 := (cell p.1 (duty p.1 p.2.1 p.2.2).1, 0, (duty p.1 p.2.1 p.2.2).2)
theorem tokOf_inj : Function.Injective tokOf := by
  rintro ⟨c, i, k⟩ ⟨c', i', k'⟩ h
  have h1 : c = c' := congrArg (fun x : GSem nD τ sig × ℕ × Fin 7 => x.1.1.1) h
  subst h1
  have h2 : sem (duty c i k).1 = sem (duty c i' k').1 := congrArg (fun x : GSem nD τ sig × ℕ × Fin 7 => x.1.2) h
  have h3 : (duty c i k).2 = (duty c i' k').2 := congrArg (fun x : GSem nD τ sig × ℕ × Fin 7 => x.2.2) h
  obtain ⟨h4, h5⟩ := duty_inj c i i' k k' (Prod.ext (sem_inj h2) h3)
  rw [h4, h5]
def ringToks : Finset (GSem nD τ sig × ℕ × Fin 7) := Finset.univ.map ⟨tokOf, tokOf_inj⟩

/-- The tokens of device `c`'s own cells' duties. -/
def Mint (c : Dev nD) : sProp 𝕄 :=
  bigSep Finset.univ fun p : Fin 5 × Fin 7 => dutyTok ER (cell c (duty c p.1 p.2).1) 0 (duty c p.1 p.2).2

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The tokens of all cells, given to the devices that pay them. -/
theorem deal : bigSep Finset.univ (fun c : Dev nD => Mint (F := F) c) = bigSep Finset.univ (fun c : Dev nD => Toks (F := F) c) := by
  have hm : ∀ c : Dev nD, Mint (F := F) c
      = iprop(bigSep Finset.univ (fun k : Fin 7 => dutyTok ER (cell c .bar) 0 (rev k))
        ∗ bigSep Finset.univ (fun k : Fin 7 => dutyTok ER (cell c (.agS k)) 0 0)
        ∗ bigSep Finset.univ (fun k : Fin 7 => dutyTok ER (cell c (.agR (dn c k.val))) 0 0)
        ∗ bigSep Finset.univ (fun k : Fin 7 => dutyTok ER (cell c (.rsS k)) 0 0)
        ∗ bigSep Finset.univ (fun k : Fin 7 => dutyTok ER (cell c (.rsR (up c k.val))) 0 0)) := by
    intro c
    unfold Mint
    rw [BI.bigSep_univ_prod (fun p : Fin 5 × Fin 7 => (dutyTok ER (cell c (duty c p.1 p.2).1) 0 (duty c p.1 p.2).2 : sProp 𝕄)), five,
      BI.bigSep_univ_equiv flip7 (fun k : Fin 7 => (dutyTok ER (cell c (duty c 0 k).1) 0 (duty c 0 k).2 : sProp 𝕄))]
    rfl
  rw [BI.bigSep_congr fun c _ => hm c]
  unfold Toks
  simp only [bigSep_sep']
  rw [shift_fam upE (fun c k => (dutyTok ER (cell c .bar) 0 (rev k) : sProp 𝕄)) (fun c k => dutyTok ER (cell (up c k.val) .bar) 0 (rev k)) fun k d => rfl,
    shift_fam upE (fun c k => (dutyTok ER (cell c (.agR (dn c k.val))) 0 0 : sProp 𝕄)) (fun c k => dutyTok ER (cell (up c k.val) (.agR c)) 0 0) fun k d => by
      show dutyTok ER (cell (up d k.val) (.agR (dn (up d k.val) k.val))) 0 0 = _
      rw [dn_up],
    shift_fam (fun k => (upE k).symm) (fun c k => (dutyTok ER (cell c (.rsR (up c k.val))) 0 0 : sProp 𝕄)) (fun c k => dutyTok ER (cell (dn c k.val) (.rsR c)) 0 0) fun k d => by
      show dutyTok ER (cell (dn d k.val) (.rsR (up (dn d k.val) k.val))) 0 0 = _
      rw [up_dn]]

/-! ## The credit -/

/-- What the others owe device `c`. -/
def Come (c : Dev nD) : CellTallies nD τ sig Unit :=
  ((∑ k : Fin 7, tallyAt (cell c (.rsR (up c k.val))) () N) + ∑ k : Fin 7, tallyAt (cell c (.agR (dn c k.val))) () N)
    + ∑ k : Fin 7, tallyAt (cell c .bar) () 1

theorem shift_sum (e : Fin 7 → (Dev nD ≃ Dev nD)) (X Y : Dev nD → Fin 7 → CellTallies nD τ sig Unit) (h : ∀ k d, X (e k d) k = Y d k) :
    ∑ c, ∑ k, Y c k = ∑ c, ∑ k, X c k := by
  rw [Finset.sum_comm, Finset.sum_comm (f := X)]
  refine Finset.sum_congr rfl fun k _ => ?_
  rw [← Equiv.sum_comp (e k) (fun c => X c k)]
  exact Finset.sum_congr rfl fun d _ => (h k d).symm

theorem owe_come : ∑ d : Dev nD, Owe d 0 0 0 = ∑ d : Dev nD, Come d := by
  unfold Owe Come
  simp only [rem_zero, Finset.sum_add_distrib]
  rw [shift_sum upE (fun c k => tallyAt (cell c .bar) () 1) (fun c k => tallyAt (cell (up c k.val) .bar) () 1) fun k d => rfl,
    shift_sum upE (fun c k => tallyAt (cell c (.agR (dn c k.val))) () N) (fun c k => tallyAt (cell (up c k.val) (.agR c)) () N) fun k d => by
      show tallyAt (cell (up d k.val) (.agR (dn (up d k.val) k.val))) () N = _
      rw [dn_up],
    shift_sum (fun k => (upE k).symm) (fun c k => tallyAt (cell c (.rsR (up c k.val))) () N) (fun c k => tallyAt (cell (dn c k.val) (.rsR c)) () N) fun k d => by
      show tallyAt (cell (dn d k.val) (.rsR (up (dn d k.val) k.val))) () N = _
      rw [up_dn]]

theorem come_own (d : Dev nD) (g : GSem nD τ sig) (h : Come d g ≠ 0) : g.1 = (d.tc : Thread nD τ) := by
  by_contra hne
  have hz : ∀ (k : Cell) (n : ℕ), (tallyAt (cell d k) () n : CellTallies nD τ sig Unit) g = 0 := fun k n =>
    tallyAt_ne_cell (fun e => hne (by rw [e])) () n
  refine h ?_
  unfold Come
  rw [Pi.add_apply, Pi.add_apply, Finset.sum_apply, Finset.sum_apply, Finset.sum_apply, Finset.sum_eq_zero fun k _ => hz _ _,
    Finset.sum_eq_zero fun k _ => hz _ _, Finset.sum_eq_zero fun k _ => hz _ _, add_zero, add_zero]

theorem seven_one (g : GSem nD τ sig) : ∑ k : Fin 7, (tallyAt g () 1 : CellTallies nD τ sig Unit) = tallyAt g () 7 := by
  funext g'
  refine Finsupp.ext fun u => ?_
  rw [Finset.sum_apply, Finsupp.finsetSum_apply]
  simp only [tallyAt_apply]
  by_cases h : g' = g <;> simp [h]

/-- A device's credit at launch. -/
theorem credit (c : Dev nD) : (Pipeline.launchCred (fun d => Owe d 0 0 0) c : sProp 𝕄) ⊢ Due (F := F) c := by
  rw [Pipeline.launchCred_of_sum _ Come owe_come come_own c]
  unfold Come Due
  rw [seven_one, ← Pipeline.cred_finsetSum, ← Pipeline.cred_finsetSum]
  iintro H
  ihave H2 := (cred_add _ _).1 $$ H
  icases H2 with ⟨H, HB⟩
  ihave H3 := (cred_add _ _).1 $$ H
  icases H3 with ⟨HR, HA⟩
  isplitl [HB]; · iexact HB
  isplitl [HA]; · iexact HA
  iexact HR

/-! ## The cells' invariants -/

variable (A : Args F)

def u₀ : UU := (initOf (Pipeline.cells cfgs cellOf_inj) (Pipeline.launchToks cfgs cellOf_inj), initOf ringCells ringToks)

/-- What the launch's element deals device `c`, -/
def G (c : Dev nD) : sProp 𝕄 :=
  iprop((bigSep Finset.univ fun i : Fin 31 => roundState ER (Rd A) (kcell (c, i)) 0)
    ∗ Pos (F := F) c ∗ (bigSep Finset.univ fun i : Fin 31 => reached ER (kcell (c, i)) 0) ∗ Mint (F := F) c)
/-- and what it has of it when the cells have their invariants. -/
def G' (c : Dev nD) : sProp 𝕄 := iprop(records A ∗ Pos (F := F) c ∗ Toks (F := F) c)

theorem fund : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun i : Fin 31 => Φ (kcell (c, i)) := by
    unfold ringCells; rw [BI.bigSep_map, BI.bigSep_univ_prod]; rfl
  have hT : bigSep ringToks (fun x => (dutyTok ER x.1 x.2.1 x.2.2 : sProp 𝕄)) = bigSep Finset.univ fun c : Dev nD => Mint (F := F) c := by
    unfold ringToks; rw [BI.bigSep_map, BI.bigSep_univ_prod]; rfl
  iintro HX
  imod (Rounds.fund ER (Rd A) ringCells ringToks) $$ HX with ⟨Hst, Hr, Hat, Htok⟩
  imodintro
  ihave Hst' := (BIBase.Entails.of_eq (hX fun g => roundState ER (Rd A) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G Pos; simp only [bigSep_sep']
  isplitl [Hst']; · iexact Hst'
  isplitl [Hat']; · iexact Hat'
  isplitl [Hr']; · iexact Hr'
  iexact Htok'

/-- The kernel's semaphores and the barrier's make up a device's cells. -/
theorem zero_eq (c : Dev nD) : Zero (F := F) c = iprop(unscopedSems0 c
    ∗ Pipeline.ownSems0 (Ix := Unit) (Name := ℕ) (U := UU) (Lvl := ℕ) (Val := Elt F) (τ := τ) osem c) := by
  have h : (unscopedSems0 c : sProp 𝕄) = semVal (cell c .bar) 0 := by
    unfold unscopedSems0; rw [bigSep_eq_bigSepL_of_eq [SemLoc.reg barS] (by decide) (by decide)]; rfl
  rw [h]
  unfold Pipeline.ownSems0
  exact all_cells (F := F) (fun sm => semVal ((c : Thread nD τ), sm) 0)

theorem make (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun i : Fin 31 => inv A (kcell (c, i))) ∗ Pos (F := F) c ∗ Mint (F := F) c) := by
  unfold G
  iintro ⟨Hos, Hus, Hst, Hat, #Hr, Htok⟩
  ihave Hv := (BIBase.Entails.of_eq (zero_eq (F := F) c).symm) $$ [Hos Hus]
  · isplitl [Hus]; · iexact Hus
    iexact Hos
  have h : iprop(Zero (F := F) c ∗ bigSep Finset.univ fun i : Fin 31 => roundState ER (Rd A) (kcell (c, i)) 0)
      ⊢ (|={Set.univ}=> bigSep Finset.univ fun i : Fin 31 => iprop(∃ κ : ℕ, cellInv ER (Rd A) κ (kcell (c, i))) : sProp 𝕄) := by
    unfold Zero
    rw [← bigSep_sep']
    exact (BI.bigSep_mono fun k _ => BIBase.Entails.trans (Rounds.body_intro ER (Rd A) (kcell (c, k))) inv_alloc).trans (bigSep_fupd _ _)
  imod h $$ [Hv Hst] with Hinv
  · isplitl [Hv]; · iexact Hv
    iexact Hst
  imodintro
  unfold inv
  rw [bigSep_sep']
  isplitl [Hinv]
  · isplitl [Hinv]; · iexact Hinv
    iexact Hr
  isplitl [Hat]; · iexact Hat
  iexact Htok

theorem regroup : bigSep Finset.univ (fun c : Dev nD => iprop((bigSep Finset.univ fun i : Fin 31 => inv A (kcell (c, i))) ∗ Pos (F := F) c ∗ Mint (F := F) c))
    ⊢ bigSep Finset.univ (G' A) := by
  rw [bigSep_sep', bigSep_sep', deal, ← bigSep_sep', ← BI.bigSep_univ_prod (fun p : Dev nD × Fin 31 => inv A (kcell p))]
  exact bigSep_with_persistent (S := Finset.univ) (R := records A) (Φ := fun c => iprop(Pos (F := F) c ∗ Toks (F := F) c)) (fun c _ => by
    unfold G'; iintro H; iexact H)

theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  BIBase.Entails.trans ((BI.bigSep_mono fun c _ => make A c).trans (bigSep_fupd _ _)) (BI.fupd_mono (regroup A))

end Cert.KernelIdeal.Run
-- ==== Proof.KernelIdeal.Run.lean ====
/-
# The run

Every execution of the kernel on the eight devices ends, with each device's result `OUT`, every argument as it was and every
semaphore at zero.
-/
module

public import proofs.«01_k».proof.Proof.KernelIdeal.Funds

public import proofs.«01_k».proof.Proof.Gen.KernelIdeal.Frame
public import Idealize.ShloMosaic.Lib.Pipeline.CollectiveSegs
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## What the region's proof takes -/

/-- The arguments, as the windows bring them. -/
def args : Args F where
  x c := iblk m c 0 t0_0
  wq c := iblk m c 1 t0_0
  wo c := iblk m c 2 t0_0
  wk c := iblk m c 3 t0_0
  wv c := iblk m c 4 t0_0

/-- What a device takes into the region, -/
def Begin (c : Dev nD) : sProp 𝕄 := iprop(records (args m) ∗ levAts L lv ∗ Toks (F := F) c ∗ Due (F := F) c ∗ Pos (F := F) c)
/-- what it holds before the body -/
def Φ₀ (c : Dev nD) : sProp 𝕄 := iprop(Begin m c ∗ Pipeline.scopedRest spec0 c)
/-- and after it. -/
def Φ₁ (c : Dev nD) : sProp 𝕄 := iprop(Zero (F := F) c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => OUT (args m) c
  Φ t := match t with
    | ⟨0, _⟩ => Φ₀ m c
    | ⟨_ + 1, _⟩ => Φ₁ c
  q _ := fullShare
  owed t := match t with
    | ⟨0, _⟩ => Owe c 0 0 0
    | ⟨_ + 1, _⟩ => 0

theorem windows (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Each input's staging buffer holds its block when the body starts. -/
theorem before_0 (c : Dev nD) (d) : (dats m ρ 0 c).before (0 : Fin 6) t0_0 d = iblk m c 0 t0_0 :=
  (dats m ρ 0 c).before_in_eq_fetched 0 rfl (fun _ => rfl) (fun _ _ _ => rfl) (fun t => by rw [fin_N0 t]; rfl) t0_0 d
theorem before_1 (c : Dev nD) (d) : (dats m ρ 0 c).before (1 : Fin 6) t0_0 d = iblk m c 1 t0_0 :=
  (dats m ρ 0 c).before_in_eq_fetched 1 rfl (fun _ => rfl) (fun _ _ _ => rfl) (fun t => by rw [fin_N0 t]; rfl) t0_0 d
theorem before_2 (c : Dev nD) (d) : (dats m ρ 0 c).before (2 : Fin 6) t0_0 d = iblk m c 2 t0_0 :=
  (dats m ρ 0 c).before_in_eq_fetched 2 rfl (fun _ => rfl) (fun _ _ _ => rfl) (fun t => by rw [fin_N0 t]; rfl) t0_0 d
theorem before_3 (c : Dev nD) (d) : (dats m ρ 0 c).before (3 : Fin 6) t0_0 d = iblk m c 3 t0_0 :=
  (dats m ρ 0 c).before_in_eq_fetched 3 rfl (fun _ => rfl) (fun _ _ _ => rfl) (fun t => by rw [fin_N0 t]; rfl) t0_0 d
theorem before_4 (c : Dev nD) (d) : (dats m ρ 0 c).before (4 : Fin 6) t0_0 d = iblk m c 4 t0_0 :=
  (dats m ρ 0 c).before_in_eq_fetched 4 rfl (fun _ => rfl) (fun _ _ _ => rfl) (fun t => by rw [fin_N0 t]; rfl) t0_0 d

/-! ## The body -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ (F := F) c ∗ (dats m ρ 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (OUT (args m) c))

theorem opens (c : Dev nD) : bodyPre m ρ c ⊢ iprop(∃ f, Wins (args m) c f ∗ Init (args m) c) := by
  unfold bodyPre Φ₀ Begin Dat.owesAt Pipeline.owesWithin stg
  iintro ⟨⟨⟨#HR, HL, HT, HD, HP⟩, Hs⟩, ⟨%W, -, Ho⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  rw [before_0] at e0; rw [before_1] at e1; rw [before_2] at e2; rw [before_3] at e3; rw [before_4] at e4
  subst e0 e1 e2 e3 e4
  iexists f5
  unfold Wins Init Core
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HL Ho]
  · isplitr; · iexact HR
    isplitl [HL]; · iexact HL
    iexists W; iexact Ho
  isplitl [HT]; · iexact HT
  isplitl [HD]; · iexact HD
  isplitl [HP]; · iexact HP
  iexact Hs

theorem closes (c : Dev nD) : iprop(Wins (args m) c (OUT (args m) c) ∗ Fini (args m) c) ⊢ bodyPost m ρ c := by
  unfold Wins Fini Core
  rw [Owe_done]
  iintro ⟨⟨H0, H1, H2, H3, H4, H5⟩, ⟨-, -, ⟨%W, Ho⟩⟩, HZ, Hs⟩
  unfold bodyPost Φ₁ Dat.owesAt Pipeline.owesWithin stg
  isplitl [HZ Hs]
  · isplitl [HZ]; · iexact HZ
    iexact Hs
  isplitl [Ho]
  · iexists W
    isplitr
    · ipureintro; exact fun _ _ => Or.inl trivial
    iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr; · ipureintro; rfl
  iexact H5

theorem body_one (c : Dev nD) {f : Vec F S2x128x512 .f32} : iprop(Wins (args m) c f ∗ Init (args m) c)
    ⊢ Wp c (cc0_body (F := F) gM0 (Memref.isWhole_whole _) gM1 (Memref.isWhole_whole _) gM2 (Memref.isWhole_whole _) gM3 (Memref.isWhole_whole _)
      gM4 (Memref.isWhole_whole _) gM5 (Memref.isWhole_whole _) xM (Memref.isWhole_whole _) sM (Memref.isWhole_whole _) rM (Memref.isWhole_whole _)
      aM (Memref.isWhole_whole _) qM (Memref.isWhole_whole _) oM (Memref.isWhole_whole _)
      cc0_scratch6 cc0_scratch7 cc0_scratch8 cc0_scratch9) (fun _ => bodyPost m ρ c) :=
  BIBase.Entails.trans body_whole (wp_mono frame _ Set.univ fun _ => closes m ρ c)

set_option maxRecDepth 40000 in
/-- The body's obligation on a device. -/
theorem obligation (c : Dev nD) : BodyObligation (dats m ρ 0 c) (defs₀ (F := F)) 𝒱₀ () Set.univ := fun t => by
  rw [fin_N0 t]
  rw [windows, windows]
  simp only [owns_whole]
  refine BIBase.Entails.trans (show _ ⊢ bodyPre m ρ c from BIBase.Entails.rfl) ?_
  refine BIBase.Entails.trans ?_ (wp_mono frame _ Set.univ (Q := fun _ => bodyPost m ρ c) fun _ => BIBase.Entails.rfl)
  show bodyPre m ρ c ⊢ Wp c (bodyAt0 t0_0) (fun _ => bodyPost m ρ c)
  refine BIBase.Entails.trans (opens m ρ c) ?_
  iintro ⟨%f, H⟩
  iapply (body_one m ρ c (f := f)); iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Owe d 0 0 0) c ∗ prngReg c (ρ c) ∗ G' (args m) c)
      ⊢ |={Set.univ}=> iprop(Begin m c ∗ emp) := by
  unfold Begin G'
  iintro ⟨-, HL, HC, -, ⟨#HR, HP, HT⟩⟩
  ihave HD := (credit (F := F) c) $$ HC
  imodintro
  isplitl
  · isplitr; · iexact HR
    isplitl [HL]; · iexact HL
    isplitl [HT]; · iexact HT
    isplitl [HD]; · iexact HD
    iexact HP
  · iempintro

theorem phi_begin (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [zero_eq]
  iintro ⟨⟨Hu, Ho⟩, Hr⟩
  isplitl [Hu]; · iexact Hu
  isplitl [Ho]; · iexact Ho
  iexact Hr

/-- The staging cells are waited for below everything owed. -/
theorem wait_stage (c : Dev nD) (sm : SemLoc sig) (h : ∀ u, lv ((c : Thread nD τ), sm) u ≤ 0) (O : CellTallies nD τ sig Unit)
    (hO : O = Owe c 0 0 0 ∨ O = 0) : (levAts L lv : sProp 𝕄) ⊢ MayWait (c : Thread nD τ) sm () O := by
  rcases hO with rfl | rfl
  · exact mayWait c sm 0 0 0 0 h (by decide) (by decide) (by decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (fun _ => by fin_cases w <;> fin_cases s <;> exact Nat.le_of_eq rfl) _ (by
      rcases t with ⟨_ | _, ht⟩
      · exact Or.inl rfl
      · exact Or.inr rfl)

/-! ## The run -/

/-- An array after the run. -/
def final (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := fun d => Owe d 0 0 0) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      imod (fund (args m)) $$ HX with HG
      imodintro
      isplitl [HP] <;> iassumption)
    (hglob := glob (args m))
    (hA := fun _ _ => rfl) (hpf := fun _ k => k.elim0)
    (X := Begin m) (Y := fun c => unscopedSems0 c) (Z := fun _ => iprop(emp))
    (hX := start_intro m ρ) (hin := phi_begin m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Read at the program's arrays -/

theorem index_zero : ∀ (w : Fin 6) (a : Fin (cfg0.win w).shape.rank), (cfg0.win w).index t0_0 a = 0 := by decide

/-- A window that is its whole array brings the array. -/
theorem args_x (c : Dev nD) : (args m).x c = m ((c.tc : Thread nD τ).loc main_arg0) := by
  funext i; show m _ _ = m _ _; congr 1; funext a; apply Fin.ext; exact Pipeline.Window.rect_emb_val_of_index_zero (cfg0.win 0) t0_0 a (index_zero 0 a) i
theorem args_wq (c : Dev nD) : (args m).wq c = m ((c.tc : Thread nD τ).loc main_arg1) := by
  funext i; show m _ _ = m _ _; congr 1; funext a; apply Fin.ext; exact Pipeline.Window.rect_emb_val_of_index_zero (cfg0.win 1) t0_0 a (index_zero 1 a) i
theorem args_wo (c : Dev nD) : (args m).wo c = m ((c.tc : Thread nD τ).loc main_arg4) := by
  funext i; show m _ _ = m _ _; congr 1; funext a; apply Fin.ext; exact Pipeline.Window.rect_emb_val_of_index_zero (cfg0.win 2) t0_0 a (index_zero 2 a) i
theorem args_wk (c : Dev nD) : (args m).wk c = m ((c.tc : Thread nD τ).loc main_arg2) := by
  funext i; show m _ _ = m _ _; congr 1; funext a; apply Fin.ext; exact Pipeline.Window.rect_emb_val_of_index_zero (cfg0.win 3) t0_0 a (index_zero 3 a) i
theorem args_wv (c : Dev nD) : (args m).wv c = m ((c.tc : Thread nD τ).loc main_arg3) := by
  funext i; show m _ _ = m _ _; congr 1; funext a; apply Fin.ext; exact Pipeline.Window.rect_emb_val_of_index_zero (cfg0.win 4) t0_0 a (index_zero 4 a) i

/-- The result's array ends with what the body left. -/
theorem final_out (c : Dev nD) : final m ρ c (5 : Fin 6) = OUT (args m) c :=
  (dats m ρ 0 c).arrAt_eq_of_after_last (5 : Fin 6) t0_0 (by decide) _ fun _ => rfl

/-- Every execution ends, with the arguments unchanged, every semaphore at zero and each device's result `OUT`. -/
theorem run : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
    ∧ ∀ c : Dev nD, r.2.mem ((c.tc : Thread nD τ).loc main_v1) = OUT (args m) c) :=
  (θ_run defs _ _).mono (fun _ h => ⟨⟨fun c => ⟨(h.1 c 0).trans ((dats m ρ 0 c).arrAt_in 0 rfl _), (h.1 c 1).trans ((dats m ρ 0 c).arrAt_in 1 rfl _),
      (h.1 c 3).trans ((dats m ρ 0 c).arrAt_in 3 rfl _), (h.1 c 4).trans ((dats m ρ 0 c).arrAt_in 4 rfl _),
      (h.1 c 2).trans ((dats m ρ 0 c).arrAt_in 2 rfl _)⟩, h.2⟩, fun c => (h.1 c 5).trans (final_out m ρ c)⟩) (run_main m ρ)

end Cert.KernelIdeal.Run
-- ==== Proof.Value.Attention.lean ====
/-
# One column of attention

What both programs compute, over plain functions: for a batch's 128 rows `x`, a head's 64 columns of `Wq` and `Wk`, and one column
of `Wv`, the softmax of the head's scaled scores of row `i` against every row, applied to that column of the values.
-/
module

public import Idealize.ShloMosaic.Lib.Pointwise

@[expose] public section

noncomputable section

namespace Cert.Value

open Idealize.ShloMosaic

variable (x : Fin 128 → Fin 512 → EReal) (q k : Fin 64 → Fin 512 → EReal) (v : Fin 512 → EReal)

/-- `-∞`, where the maxima start. -/
abbrev least : EReal := Ideal.ofBits .f32 0xFF800000#32

/-- The scaled score of row `i` against row `j`. -/
def score (i j : Fin 128) : EReal :=
  (∑ d : Fin 64, (∑ l : Fin 512, x i l * q d l) * ∑ l : Fin 512, x j l * k d l) * Ideal.ofBits .f32 0x3E000000#32
/-- The largest score of row `i`. -/
def peak (i : Fin 128) : EReal := Finset.univ.fold max least (score x q k i)
/-- The weight of row `j` in row `i`'s output, before it is normalized. -/
def weight (i j : Fin 128) : EReal := Ideal.exp (score x q k i j - peak x q k i)
/-- The output of row `i` in the column `v`. -/
def att (i : Fin 128) : EReal :=
  Ideal.div (∑ j : Fin 128, (∑ l : Fin 512, x j l * v l) * weight x q k i j) (∑ j : Fin 128, weight x q k i j)

/-- A maximum already starts from its base, so taking the base in again changes nothing. -/
theorem max_fold_max {ι : Type*} (s : Finset ι) (b : EReal) (f : ι → EReal) : max b (s.fold max b f) = s.fold max b f :=
  max_eq_right (Finset.le_fold_max b |>.2 (.inl le_rfl))

end Cert.Value
-- ==== Proof.Value.Chunk.lean ====
/-
# A block product of the kernel, read at an element
-/
module

public import proofs.«01_k».proof.Proof.KernelIdeal.Contents
public import proofs.«01_k».proof.Proof.Value.Attention

@[expose] public section

noncomputable section

namespace Cert.Value

open Cert.KernelIdeal Cert.KernelIdeal.Gen Cert.KernelIdeal.Run
open Idealize.ShloMosaic Idealize.SL.Sem

section Chunk

variable (x : FVec Ideal S1x1x512x128 .bf16) (q : FVec Ideal S512x1536 .bf16) (o : FVec Ideal S512x512 .bf16)

/-- The output of column `r` of the device's heads, for row `i`: the projections' columns lie side by side, 512 apart. -/
def colAtt (r : Fin 512) (i : Fin 128) : EReal :=
  att (fun i l => x (ix4 0 0 l i)) (fun d l => q (ix2 l ⟨r.val / 64 * 64 + d.val, by omega⟩))
    (fun d l => q (ix2 l ⟨512 + (r.val / 64 * 64 + d.val), by omega⟩)) (fun l => q (ix2 l ⟨1024 + r.val, by omega⟩)) i

theorem chunkA_apply (e : Fin 512) (i : Fin 128) :
    chunkA (F := Ideal) x q o (ix3 0 e i) = ∑ r : Fin 512, o (ix2 r e) * colAtt x q r i := by
  unfold chunkA colAtt att weight peak score
  unfold_payloads
  pointwise
  simp only [mul_comm (q _)]

theorem chunkB_apply (e : Fin 512) (i : Fin 128) :
    chunkB (F := Ideal) x q o (ix4 0 0 e i) = ∑ r : Fin 512, o (ix2 r e) * colAtt x q r i := by
  rw [← chunkA_apply]
  unfold chunkB chunkA
  unfold_payloads
  pointwise

end Chunk

end Cert.Value
-- ==== Proof.Value.Out.lean ====
/-
# The kernel's result at an element

A device adds its own partial result and the seven it receives: the sum, over the eight devices' heads, of what each head's column
gives for the device's rows, times that column's row of `Wo`.
-/
module

public import proofs.«01_k».proof.Proof.Value.Chunk

@[expose] public section

noncomputable section

namespace Cert.Value

open Cert.KernelIdeal Cert.KernelIdeal.Gen Cert.KernelIdeal.Run
open Idealize.ShloMosaic Idealize.SL.Sem

variable (A : Args Ideal)

/-! ## The operands -/

theorem xb_apply (t : Dev nD) (b : Fin 2) (l : Fin 512) (i : Fin 128) : xb A t b (ix4 0 0 l i) = A.x t (ix3 b i l) := by
  have h : ∀ v : FVec Ideal S1x128x512 .f32, k0_pay1 (F := Ideal) v (ix4 0 0 l i) = v (ix3 0 i l) := fun v => by
    unfold_payloads; pointwise
  exact (h _).trans (congrArg (A.x t) (ix3_eq_valueIdx b i l).symm)

theorem pay3_apply (v : FVec Ideal S512x512 .f32) (j : S512x512.Idx) : k0_pay3 (F := Ideal) v j = v j := by unfold_payloads; pointwise
theorem pay4_apply (v : FVec Ideal S512x512 .f32) (j : S512x512.Idx) : k0_pay4 (F := Ideal) v j = v j := by unfold_payloads; pointwise
theorem pay5_apply (v : FVec Ideal S512x512 .f32) (j : S512x512.Idx) : k0_pay5 (F := Ideal) v j = v j := by unfold_payloads; pointwise
theorem pay6_apply (v : FVec Ideal S512x512 .f32) (j : S512x512.Idx) : k0_pay6 (F := Ideal) v j = v j := by unfold_payloads; pointwise

theorem WO_apply (s : Dev nD) (r e : Fin 512) : WO A s (ix2 r e) = A.wo s (ix2 r e) := pay6_apply _ _

theorem WQ_q (s : Dev nD) (l : Fin 512) (c : ℕ) (hc : c < 512) :
    WQ A s (ix2 l ⟨c, by omega⟩) = A.wq s (ix2 l ⟨c, hc⟩) :=
  (dif_pos hc).trans ((pay3_apply _ _).trans (congrArg (A.wq s) (ix2_eq_valueIdx l ⟨c, hc⟩).symm))

theorem WQ_k (s : Dev nD) (l : Fin 512) (c : ℕ) (hc : c < 512) :
    WQ A s (ix2 l ⟨512 + c, by omega⟩) = A.wk s (ix2 l ⟨c, hc⟩) :=
  (dif_neg (show ¬ 512 + c < 512 by omega)).trans ((dif_pos (show 512 + c < 1024 by omega)).trans ((pay4_apply _ _).trans
    (congrArg (A.wk s) ((ix2_eq_valueIdx _ _).symm.trans (congrArg (ix2 l) (Fin.ext (show 512 + c - 512 = c by omega)))))))

theorem WQ_v (s : Dev nD) (l : Fin 512) (c : ℕ) (hc : c < 512) :
    WQ A s (ix2 l ⟨1024 + c, by omega⟩) = A.wv s (ix2 l ⟨c, hc⟩) :=
  (dif_neg (show ¬ 1024 + c < 512 by omega)).trans ((dif_neg (show ¬ 1024 + c < 1024 by omega)).trans ((pay5_apply _ _).trans
    (congrArg (A.wv s) ((ix2_eq_valueIdx _ _).symm.trans (congrArg (ix2 l) (Fin.ext (show 1024 + c - 1024 = c by omega)))))))

/-! ## A partial result -/

/-- Column `r` of device `s`'s heads, for row `i` of batch `b` of device `t`. -/
def headAtt (t s : Dev nD) (b : Fin 2) (r : Fin 512) (i : Fin 128) : EReal :=
  att (fun i l => A.x t (ix3 b i l)) (fun d l => A.wq s (ix2 l ⟨r.val / 64 * 64 + d.val, by omega⟩))
    (fun d l => A.wk s (ix2 l ⟨r.val / 64 * 64 + d.val, by omega⟩)) (fun l => A.wv s (ix2 l r)) i
/-- What device `s`'s heads give at `(i, e)` of batch `b` of device `t`. -/
def share (t s : Dev nD) (b : Fin 2) (i : Fin 128) (e : Fin 512) : EReal :=
  ∑ r : Fin 512, A.wo s (ix2 r e) * headAtt A t s b r i

theorem colAtt_eq (t s : Dev nD) (b : Fin 2) (r : Fin 512) (i : Fin 128) :
    colAtt (xb A t b) (WQ A s) r i = headAtt A t s b r i := by
  have hx : (fun (i : Fin 128) (l : Fin 512) => xb A t b (ix4 0 0 l i)) = fun i l => A.x t (ix3 b i l) :=
    funext fun i => funext fun l => xb_apply A t b l i
  have hq : (fun (d : Fin 64) (l : Fin 512) => WQ A s (ix2 l ⟨r.val / 64 * 64 + d.val, by omega⟩))
      = fun d l => A.wq s (ix2 l ⟨r.val / 64 * 64 + d.val, by omega⟩) := funext fun d => funext fun l => WQ_q A s l _ _
  have hk : (fun (d : Fin 64) (l : Fin 512) => WQ A s (ix2 l ⟨512 + (r.val / 64 * 64 + d.val), by omega⟩))
      = fun d l => A.wk s (ix2 l ⟨r.val / 64 * 64 + d.val, by omega⟩) := funext fun d => funext fun l => WQ_k A s l _ _
  have hv : (fun (l : Fin 512) => WQ A s (ix2 l ⟨1024 + r.val, by omega⟩)) = fun l => A.wv s (ix2 l r) :=
    funext fun l => WQ_v A s l _ _
  unfold colAtt headAtt
  rw [hx, hq, hk, hv]

theorem own_apply (c : Dev nD) (b : Fin 2) (i : Fin 128) (e : Fin 512) :
    chunkA (xb A c b) (WQ A c) (WO A c) (ix3 0 e i) = share A c c b i e := by
  rw [chunkA_apply]; simp only [colAtt_eq, WO_apply]; rfl

theorem ch_apply (t s : Dev nD) (b : Fin 2) (i : Fin 128) (e : Fin 512) : ch A t s b (ix4 0 0 e i) = share A t s b i e := by
  unfold ch; rw [chunkB_apply]; simp only [colAtt_eq, WO_apply]; rfl

/-! ## The sum -/

theorem accStep_apply (a : FVec Ideal S1x512x128 .f32) (d : FVec Ideal S1x1x512x128 .bf16) (e : Fin 512) (i : Fin 128) :
    accStep (F := Ideal) a d (ix3 0 e i) = a (ix3 0 e i) + d (ix4 0 0 e i) := by
  unfold accStep; unfold_payloads; pointwise

theorem pay80_apply (a : FVec Ideal S1x512x128 .f32) (i : Fin 128) (e : Fin 512) :
    k0_pay80 (F := Ideal) a (ix3 0 i e) = a (ix3 0 e i) := by
  unfold_payloads; pointwise

theorem ACC_apply (c : Dev nD) (b : Fin 2) (i : Fin 128) (e : Fin 512) (n : ℕ) :
    ACC A c b n (ix3 0 e i) = share A c c b i e + ∑ k ∈ Finset.range n, share A c (up c k) b i e := by
  induction n with
  | zero => rw [Finset.range_zero, Finset.sum_empty, add_zero]; exact own_apply A c b i e
  | succ n ih => rw [Finset.sum_range_succ, ← add_assoc, ← ih, ← ch_apply]; exact accStep_apply _ _ e i

/-- A device and the seven it hears from are all eight. -/
theorem univ_eq (c : Dev nD) : (Finset.univ : Finset (Dev nD)) = insert c (Finset.univ.image fun k : Fin 7 => up c k.val) := by
  revert c; decide

theorem OUT_apply (c : Dev nD) (b : Fin 2) (i : Fin 128) (e : Fin 512) :
    OUT A c (ix3 b i e) = ∑ s : Dev nD, share A c s b i e := by
  have h : OUT A c (ix3 b i e) = ACC A c b 7 (ix3 0 e i) :=
    (congrArg (k0_pay80 (ACC A c b 7)) (ix3_eq_valueIdx 0 i e).symm).trans (pay80_apply _ i e)
  rw [h, ACC_apply, univ_eq c, Finset.sum_insert, Finset.sum_image, Finset.sum_range]
  · exact fun j _ k _ hjk => up_inj c hjk
  · intro hm
    obtain ⟨k, -, hk⟩ := Finset.mem_image.1 hm
    exact up_ne c k hk

end Cert.Value
-- ==== Proof.Value.Ref.lean ====
/-
# The reference, read at an element

The reference is one sequence of array operations over sixty-four heads. Named here stage by stage, each stage is read at an
element, and its result is the sum over the 4096 columns of the heads of the head's output times `Wo`.
-/
module

public import proofs.«01_k».proof.Proof.Gen.ReferenceIdeal.Run
public import proofs.«01_k».proof.Proof.Value.Attention

@[expose] public section

noncomputable section

namespace Cert.Value.Ref

open Cert.ReferenceIdeal Cert.ReferenceIdeal.Gen
open Idealize.ShloMosaic Idealize.SL.Sem

/-! ## The stages -/

section Stages

variable {F : FTy → Type} [FloatOps F]
variable (x : FVec F S16x128x512 .f32) (w wq wk wv : FVec F S512x4096 .f32) (wo : FVec F S4096x512 .f32)
variable (s : FVec F S16x64x128x128 .f32)

/-- A projection of `x`, cut in heads. -/
def heads : FVec F S16x128x64x64 .f32 :=
  shapeCast _ (Host.dotGeneral dot_S16x128x512_S512x4096_S16x128x4096_2_0_01_1_n_n none x w) shapeCasts_S16x128x4096_S16x128x64x64
/-- The scaled scores. -/
def scores : FVec F S16x64x128x128 .f32 :=
  mulf (Host.dotGeneral dot_S16x128x64x64_S16x128x64x64_S16x64x128x128_3_3_1_1_02_02 none (heads x wq) (heads x wk))
    (broadcastInDim S16x64x128x128 ![] bcast_S_S16x64x128x128 (constant S_ .f32 0x3E000000#32))
/-- The running maximum after the one block, started from `-∞`. -/
def top : FVec F S16x64x128x1 .f32 :=
  maximumf (broadcastInDim S16x64x128x1 ![] bcast_S_S16x64x128x1 (constant S_ .f32 0xFF800000#32))
    (broadcastInDim S16x64x128x1 ![0, 1, 2] bcast_S16x64x128_S16x64x128x1_0_1_2
      (Host.reduce FloatOps.maximumf s (constant S_ .f32 0xFF800000#32) reducesTo_S16x64x128x128_S16x64x128_d3 h_S_))
/-- The factor on what came before the block. -/
def decay : FVec F S16x64x128x1 .f32 :=
  Host.exp (subf (broadcastInDim S16x64x128x1 ![] bcast_S_S16x64x128x1 (constant S_ .f32 0xFF800000#32)) (top s))
/-- The weights before they are normalized, -/
def weights : FVec F S16x64x128x128 .f32 :=
  Host.exp (subf s (broadcastInDim S16x64x128x128 ![0, 1, 2, 3] bcast_S16x64x128x1_S16x64x128x128_0_1_2_3 (top s)))
/-- their sums, and -/
def norms : FVec F S16x64x128x1 .f32 :=
  addf (mulf (broadcastInDim S16x64x128x1 ![] bcast_S_S16x64x128x1 (constant S_ .f32 0x00000000#32)) (decay s))
    (broadcastInDim S16x64x128x1 ![0, 1, 2] bcast_S16x64x128_S16x64x128x1_0_1_2
      (Host.reduceAdd (weights s) (constant S_ .f32 0x00000000#32) reducesTo_S16x64x128x128_S16x64x128_d3 h_S_))
/-- the weighted sums of the values. -/
def mixed (v : FVec F S16x128x64x64 .f32) : FVec F S16x128x64x64 .f32 :=
  addf (mulf (broadcastInDim S16x128x64x64 ![] bcast_S_S16x128x64x64 (constant S_ .f32 0x00000000#32))
      (broadcastInDim S16x128x64x64 ![0, 1, 2, 3] bcast_S16x128x64x1_S16x128x64x64_0_1_2_3
        (transpose S16x128x64x1 [0, 2, 1, 3] (decay s) transposes_S16x64x128x1_S16x128x64x1_0_2_1_3)))
    (transpose S16x128x64x64 [0, 3, 1, 2]
      (Host.dotGeneral dot_S16x128x64x64_S16x64x128x128_S16x64x64x128_1_3_3_2_02_01 none v (weights s))
      transposes_S16x64x64x128_S16x128x64x64_0_3_1_2)
/-- The heads' outputs. -/
def attended (v : FVec F S16x128x64x64 .f32) : FVec F S16x128x64x64 .f32 :=
  Host.divf (mixed s v) (broadcastInDim S16x128x64x64 ![0, 1, 2, 3] bcast_S16x128x64x1_S16x128x64x64_0_1_2_3
    (transpose S16x128x64x1 [0, 2, 1, 3] (norms s) transposes_S16x64x128x1_S16x128x64x1_0_2_1_3))
/-- The reference's result. -/
def result : FVec F S16x128x512 .f32 :=
  Host.dotGeneral dot_S16x128x4096_S4096x512_S16x128x512_2_0_01_1_n_n none
    (shapeCast _ (attended (scores x wq wk) (heads x wv)) shapeCasts_S16x128x64x64_S16x128x4096) wo

set_option maxRecDepth 8192 in
theorem res_eq (m : (ℓ : Loc nD τ sig) → Buf (Elt F) ℓ) (c : Dev nD) :
    Cert.ReferenceIdeal.Value.res_main_v34 (F := F) m c
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.ReferenceIdeal.Value.res_main_v34; rfl

end Stages

/-! ## The stages at an element -/

variable (x : FVec Ideal S16x128x512 .f32) (w wq wk wv : FVec Ideal S512x4096 .f32) (wo : FVec Ideal S4096x512 .f32)
variable (s : FVec Ideal S16x64x128x128 .f32)

theorem heads_apply (n : Fin 16) (i : Fin 128) (h d : Fin 64) :
    heads x w (ix4 n i h d) = ∑ k : Fin 512, x (ix3 n i k) * w (ix2 k ⟨h.val * 64 + d.val, by omega⟩) := by
  pointwise [heads]

theorem scores_apply (n : Fin 16) (h : Fin 64) (i j : Fin 128) :
    scores x wq wk (ix4 n h i j) = (∑ d : Fin 64, heads x wq (ix4 n i h d) * heads x wk (ix4 n j h d)) * Ideal.ofBits .f32 0x3E000000#32 := by
  pointwise [scores]

/-- A maximum along the last of four axes, read at an element: a fold along that axis, whatever the extents. -/
theorem reduce_max_apply {n0 n1 n2 n3 : ℕ} {u : Shape} (y : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf y init h hu (ix3 a b c)
      = Finset.univ.fold max (init (Shape.Idx.first hu)) fun k : Fin n3 => y (ix4 a b c k) :=
  (Host.reduce_eq_fold _ y init h hu _).trans (h.fold_fiber_r4_a3 _ _ _ y)

theorem top_of (y : FVec Ideal S16x64x128 .f32) (n : Fin 16) (h : Fin 64) (i : Fin 128) :
    maximumf (broadcastInDim S16x64x128x1 ![] bcast_S_S16x64x128x1 (constant (F := Ideal) S_ .f32 0xFF800000#32))
      (broadcastInDim S16x64x128x1 ![0, 1, 2] bcast_S16x64x128_S16x64x128x1_0_1_2 y) (ix4 n h i 0)
      = max (Ideal.ofBits .f32 0xFF800000#32) (y (ix3 n h i)) := by
  pointwise

theorem top_apply (n : Fin 16) (h : Fin 64) (i : Fin 128) :
    top s (ix4 n h i 0) = max (Ideal.ofBits .f32 0xFF800000#32)
      (Finset.univ.fold max (Ideal.ofBits .f32 0xFF800000#32) fun j : Fin 128 => s (ix4 n h i j)) := by
  unfold top
  rw [top_of, reduce_max_apply]
  rfl

theorem weights_apply (n : Fin 16) (h : Fin 64) (i j : Fin 128) :
    weights s (ix4 n h i j) = Ideal.exp (s (ix4 n h i j) - top s (ix4 n h i 0)) := by
  pointwise [weights]

theorem norms_apply (n : Fin 16) (h : Fin 64) (i : Fin 128) :
    norms s (ix4 n h i 0) = ∑ j : Fin 128, weights s (ix4 n h i j) := by
  pointwise [norms]
  rw [zero_mul, zero_add]

theorem mixed_apply (v : FVec Ideal S16x128x64x64 .f32) (n : Fin 16) (i : Fin 128) (h d : Fin 64) :
    mixed s v (ix4 n i h d) = ∑ j : Fin 128, v (ix4 n j h d) * weights s (ix4 n h i j) := by
  pointwise [mixed]
  rw [zero_mul, zero_add]

theorem attended_apply (v : FVec Ideal S16x128x64x64 .f32) (n : Fin 16) (i : Fin 128) (h d : Fin 64) :
    attended s v (ix4 n i h d) = Ideal.div (mixed s v (ix4 n i h d)) (norms s (ix4 n h i 0)) := by
  pointwise [attended]

theorem result_apply (n : Fin 16) (i : Fin 128) (e : Fin 512) :
    result x wq wk wv wo (ix3 n i e) = ∑ p : Fin 4096,
      attended (scores x wq wk) (heads x wv) (ix4 n i ⟨p.val / 64, by omega⟩ ⟨p.val % 64, by omega⟩) * wo (ix2 p e) := by
  pointwise [result]

/-! ## In the common form -/

/-- Batch `n`'s rows. -/
abbrev rows (n : Fin 16) : Fin 128 → Fin 512 → EReal := fun i l => x (ix3 n i l)
/-- A head's columns of a projection. -/
abbrev headCols (h : Fin 64) : Fin 64 → Fin 512 → EReal := fun d l => w (ix2 l ⟨h.val * 64 + d.val, by omega⟩)

theorem scores_eq (n : Fin 16) (h : Fin 64) (i j : Fin 128) :
    scores x wq wk (ix4 n h i j) = score (rows x n) (headCols wq h) (headCols wk h) i j := by
  rw [scores_apply]; simp only [heads_apply]; rfl

theorem weights_eq (n : Fin 16) (h : Fin 64) (i j : Fin 128) :
    weights (scores x wq wk) (ix4 n h i j) = weight (rows x n) (headCols wq h) (headCols wk h) i j := by
  rw [weights_apply, top_apply, max_fold_max]; simp only [scores_eq]; rfl

theorem attended_eq (n : Fin 16) (i : Fin 128) (h d : Fin 64) :
    attended (scores x wq wk) (heads x wv) (ix4 n i h d)
      = att (rows x n) (headCols wq h) (headCols wk h) (headCols wv h d) i := by
  rw [attended_apply, mixed_apply, norms_apply]; simp only [weights_eq, heads_apply]; rfl

/-- The reference's result at an element. -/
theorem result_eq (n : Fin 16) (i : Fin 128) (e : Fin 512) :
    result x wq wk wv wo (ix3 n i e) = ∑ p : Fin 4096,
      att (rows x n) (headCols wq ⟨p.val / 64, by omega⟩) (headCols wk ⟨p.val / 64, by omega⟩)
        (headCols wv ⟨p.val / 64, by omega⟩ ⟨p.val % 64, by omega⟩) i * wo (ix2 p e) := by
  rw [result_apply]; simp only [attended_eq]

end Cert.Value.Ref
-- ==== Proof.Value.Blocks.lean ====
/-
# The devices' blocks and the whole

The sum over the 4096 columns of the heads is cut into the eight devices' 512. Column `512 s + r` of a projection is column `r` of
device `s`'s block, and its head's columns lie in that block too, since 64 divides 512.
-/
module

public import proofs.«01_k».proof.Proof.Value.Out
public import proofs.«01_k».proof.Proof.Value.Ref
public import Idealize.ShloMosaic.Lib.Layout

@[expose] public section

noncomputable section

namespace Cert.Value

open Cert.KernelIdeal Cert.KernelIdeal.Gen Cert.KernelIdeal.Run
open Idealize.ShloMosaic Idealize.SL.Sem

/-! ## Where a block's elements lie -/

abbrev Whole3 : Shape := ⟨3, ![16, 128, 512]⟩
abbrev Cols : Shape := ⟨2, ![512, 4096]⟩
abbrev Rows : Shape := ⟨2, ![4096, 512]⟩

theorem block_batch (c : Fin 8) (v : Whole3.Idx → EReal) (b : Fin 2) (i : Fin 128) (l : Fin 512) :
    Layout.block ⟨3, ![2, 128, 512]⟩ Whole3 0 8 c v (by decide) (ix3 b i l) = v (ix3 ⟨c.val * 2 + b.val, by omega⟩ i l) :=
  congrArg v (funext fun a => by fin_cases a <;> rfl)

theorem block_cols (c : Fin 8) (v : Cols.Idx → EReal) (l r : Fin 512) :
    Layout.block ⟨2, ![512, 512]⟩ Cols 1 8 c v (by decide) (ix2 l r) = v (ix2 l ⟨c.val * 512 + r.val, by omega⟩) :=
  congrArg v (funext fun a => by fin_cases a <;> rfl)

theorem block_rows (c : Fin 8) (v : Rows.Idx → EReal) (r e : Fin 512) :
    Layout.block ⟨2, ![512, 512]⟩ Rows 0 8 c v (by decide) (ix2 r e) = v (ix2 ⟨c.val * 512 + r.val, by omega⟩ e) :=
  congrArg v (funext fun a => by fin_cases a <;> rfl)

/-! ## The result -/

variable (x : FVec Ideal ReferenceIdeal.S16x128x512 .f32) (wq wk wv : FVec Ideal ReferenceIdeal.S512x4096 .f32)
variable (wo : FVec Ideal ReferenceIdeal.S4096x512 .f32)

/-- The devices' arguments are the blocks of whole arrays: batches of `x`, columns of the projections, rows of `Wo`. -/
structure Cut (A : Args Ideal) : Prop where
  x : ∀ c, A.x c = Layout.block ⟨3, ![2, 128, 512]⟩ Whole3 0 8 c x
  wq : ∀ c, A.wq c = Layout.block ⟨2, ![512, 512]⟩ Cols 1 8 c wq
  wk : ∀ c, A.wk c = Layout.block ⟨2, ![512, 512]⟩ Cols 1 8 c wk
  wv : ∀ c, A.wv c = Layout.block ⟨2, ![512, 512]⟩ Cols 1 8 c wv
  wo : ∀ c, A.wo c = Layout.block ⟨2, ![512, 512]⟩ Rows 0 8 c wo

variable {x wq wk wv wo}
variable {A : Args Ideal} (h : Cut x wq wk wv wo A)

include h in
/-- Column `r` of device `s` is column `512 s + r` of the whole. -/
theorem headAtt_eq (t s : Dev nD) (b : Fin 2) (r : Fin 512) (i : Fin 128) (p : Fin 4096) (hp : p.val = s.val * 512 + r.val) :
    headAtt A t s b r i = att (Ref.rows x ⟨t.val * 2 + b.val, by have : t.val < 8 := t.isLt; omega⟩)
      (Ref.headCols wq ⟨p.val / 64, by omega⟩) (Ref.headCols wk ⟨p.val / 64, by omega⟩)
      (Ref.headCols wv ⟨p.val / 64, by omega⟩ ⟨p.val % 64, by omega⟩) i := by
  have hx : (fun (i : Fin 128) (l : Fin 512) => A.x t (ix3 b i l)) = Ref.rows x ⟨t.val * 2 + b.val, by have : t.val < 8 := t.isLt; omega⟩ :=
    funext fun i => funext fun l => (congrFun (h.x t) _).trans (block_batch t x b i l)
  have hq : (fun (d : Fin 64) (l : Fin 512) => A.wq s (ix2 l ⟨r.val / 64 * 64 + d.val, by omega⟩)) = Ref.headCols wq ⟨p.val / 64, by omega⟩ :=
    funext fun d => funext fun l => (congrFun (h.wq s) _).trans ((block_cols s wq l _).trans
      (congrArg (fun k => wq (ix2 l k)) (Fin.ext (show s.val * 512 + (r.val / 64 * 64 + d.val) = p.val / 64 * 64 + d.val by omega))))
  have hk : (fun (d : Fin 64) (l : Fin 512) => A.wk s (ix2 l ⟨r.val / 64 * 64 + d.val, by omega⟩)) = Ref.headCols wk ⟨p.val / 64, by omega⟩ :=
    funext fun d => funext fun l => (congrFun (h.wk s) _).trans ((block_cols s wk l _).trans
      (congrArg (fun k => wk (ix2 l k)) (Fin.ext (show s.val * 512 + (r.val / 64 * 64 + d.val) = p.val / 64 * 64 + d.val by omega))))
  have hv : (fun (l : Fin 512) => A.wv s (ix2 l r)) = Ref.headCols wv ⟨p.val / 64, by omega⟩ ⟨p.val % 64, by omega⟩ :=
    funext fun l => (congrFun (h.wv s) _).trans ((block_cols s wv l _).trans
      (congrArg (fun k => wv (ix2 l k)) (Fin.ext (show s.val * 512 + r.val = p.val / 64 * 64 + p.val % 64 by omega))))
  unfold headAtt
  rw [hx, hq, hk, hv]

include h in
/-- Every device's result is its block of the reference's. -/
theorem OUT_eq (c : Dev nD) :
    OUT A c = Layout.block ⟨3, ![2, 128, 512]⟩ Whole3 0 8 c (Ref.result x wq wk wv wo) := by
  funext j
  obtain ⟨b, i, e, rfl⟩ : ∃ (b : Fin 2) (i : Fin 128) (e : Fin 512), j = ix3 b i e :=
    ⟨j 0, j 1, j 2, funext fun a => by fin_cases a <;> rfl⟩
  rw [OUT_apply, block_batch, Ref.result_eq, Fin.sum_univ_tiles 8 512 rfl]
  refine Finset.sum_congr rfl fun s _ => Finset.sum_congr rfl fun r _ => ?_
  rw [mul_comm]
  exact congrArg₂ (· * ·) (headAtt_eq h c s b r i _ rfl) ((congrFun (h.wo s) _).trans (block_rows s wo r e))

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Run
public import proofs.«01_k».proof.Proof.Kernel.Run
public import Idealize.ShloMosaic.Adequacy
public import Idealize.ShloMosaic.Init
public import proofs.«01_k».proof.Proof.Value.Blocks

@[expose] public section

noncomputable section

namespace Cert.Proof

open Idealize.ShloMosaic Idealize.SL.Sem Cert.Kernel

/-- The kernel, as printed: its run, the values left out. -/
theorem frame_p : Cert.quiescent_Kernel := fun m ρ _ =>
  (θ_run Cert.Kernel.defs _ _).mono (fun _ h => h.1) (Cert.Kernel.Run.run (F := Bits) m ρ)

/-- The idealized kernel: the same run at the extended reals. -/
theorem frame_pi : Cert.quiescent_KernelIdeal := fun m ρ _ =>
  (θ_run Cert.KernelIdeal.defs _ _).mono (fun _ h => h.1) (Cert.KernelIdeal.Run.run (F := Ideal) m ρ)

/-- The reference: a sequence of array operations, which declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel computes the reference: every device ends with its block of the reference's result. -/
theorem algebraic : Cert.algebraic_KernelIdeal_ReferenceIdeal := fun m g m' g' _ h =>
  have cut : Cert.Value.Cut _ _ _ _ _ (Cert.KernelIdeal.Run.args m) :=
    { x := fun c => (Cert.KernelIdeal.Run.args_x m c).trans (h c).1
      wq := fun c => (Cert.KernelIdeal.Run.args_wq m c).trans (h c).2.1
      wk := fun c => (Cert.KernelIdeal.Run.args_wk m c).trans (h c).2.2.1
      wv := fun c => (Cert.KernelIdeal.Run.args_wv m c).trans (h c).2.2.2.1
      wo := fun c => (Cert.KernelIdeal.Run.args_wo m c).trans (h c).2.2.2.2 }
  ⟨Cert.Value.Ref.result (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run Cert.KernelIdeal.defs _ _).mono (fun _ r c => ⟨(r.2 c).trans (Cert.Value.OUT_eq cut c), r.1.1 c⟩)
      (Cert.KernelIdeal.Run.run (F := Ideal) m g),
    (θ_run Cert.ReferenceIdeal.defs _ _).mono (fun _ r => ⟨(r 0).1.trans (Cert.Value.Ref.res_eq m' 0), (r 0).2⟩)
      (Cert.ReferenceIdeal.Value.run (F := Ideal) m' g')⟩

theorem claim : Cert.Claim := ⟨Cert.Kernel.Gen.facts, Cert.KernelIdeal.Gen.facts, Cert.ReferenceIdeal.Gen.facts,
  frame_p, frame_pi, frame_ri, trivial, algebraic⟩

end Cert.Proof

end
